-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![4096, 4096]⟩ ⟨2, ![8192, 4096]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S2048x256 : Shape := ⟨2, ![2048, 256]⟩
abbrev S4096x256 : Shape := ⟨2, ![4096, 256]⟩
abbrev S2x4096x256 : Shape := ⟨3, ![2, 4096, 256]⟩
abbrev S_ : Shape := ⟨0, ![]⟩
abbrev S2 : Shape := ⟨1, ![2]⟩
abbrev S1 : Shape := ⟨1, ![1]⟩
abbrev S1x4096x256 : Shape := ⟨3, ![1, 4096, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S2048x4096, .bf16⟩
  | .hbm, ⟨4, _⟩ => ⟨S4096x4096, .f32⟩
  | .local _ .vmem, ⟨0, _⟩ => ⟨S2048x256, .bf16⟩
  | .local _ .vmem, ⟨1, _⟩ => ⟨S2048x256, .bf16⟩
  | .local _ .vmem, ⟨2, _⟩ => ⟨S4096x256, .f32⟩
  | .local _ .vmem, ⟨3, _⟩ => ⟨S4096x256, .f32⟩
  | .local _ .vmem, ⟨4, _⟩ => ⟨S4096x2048, .bf16⟩
  | .local _ .vmem, ⟨5, _⟩ => ⟨S2x4096x256, .bf16⟩
  | .local _ .vmem, ⟨6, _⟩ => ⟨S2x4096x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 2 9 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 1

abbrev nD : Nat := 4
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k0_dev1 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v20 : BitVec 32 := Scalar.muli v2 c2_i32_10
  let v21 : BitVec 32 := Scalar.addi c0_i32_11 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v22 : BitVec 32 := Scalar.muli v6 c1_i32_12
  let v23 : BitVec 32 := Scalar.addi v21 v22
  v23.toNat
def k0_cond2 (i : grid0.Coords) : BitVec 1 :=
  let arg0 : BitVec 32 := BitVec.ofNat 32 (i 0).val
  let c16_i32 : BitVec 32 := 16#32
  let v10 : BitVec 1 := Scalar.cmpi .slt arg0 c16_i32
  let v11 : BitVec 32 := Scalar.extui v10
  let c0_i32_4 : BitVec 32 := 0#32
  let v12 : BitVec 1 := Scalar.cmpi .ne v11 c0_i32_4
  v12

def k0_cond3 (i : grid0.Coords) : BitVec 1 :=
  let arg0 : BitVec 32 := BitVec.ofNat 32 (i 0).val
  let c2_i32_15 : BitVec 32 := 2#32
  let v29 : BitVec 1 := Scalar.cmpi .sge arg0 c2_i32_15
  let v30 : BitVec 32 := Scalar.extui v29
  let c0_i32_16 : BitVec 32 := 0#32
  let v31 : BitVec 1 := Scalar.cmpi .ne v30 c0_i32_16
  v31

def k0_off1 (i : grid0.Coords) : Fin 1 → Nat :=
  let arg0 : BitVec 32 := BitVec.ofNat 32 (i 0).val
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  ![v28.toNat]
def k0_off2 (i : grid0.Coords) : Fin 3 → Nat :=
  let arg0 : BitVec 32 := BitVec.ofNat 32 (i 0).val
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_30 : BitVec 32 := 0#32
  let c0_i32_31 : BitVec 32 := 0#32
  ![v28.toNat, 0, 0]
def k0_off3 (i : grid0.Coords) : Fin 3 → Nat :=
  let arg0 : BitVec 32 := BitVec.ofNat 32 (i 0).val
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v37 : Index := Scalar.indexCast v28
  let c0_20 : Index := 0#32
  let c0_21 : Index := 0#32
  ![v37.toNat, 0, 0]
def k0_off4 (i : grid0.Coords) : Fin 1 → Nat :=
  let arg0 : BitVec 32 := BitVec.ofNat 32 (i 0).val
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  ![v28.toNat]
def k0_off5 (i : grid0.Coords) : Fin 3 → Nat :=
  let arg0 : BitVec 32 := BitVec.ofNat 32 (i 0).val
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_25 : BitVec 32 := 0#32
  let c0_i32_26 : BitVec 32 := 0#32
  ![v28.toNat, 0, 0]
def k0_dev2 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v41 : BitVec 32 := Scalar.muli v2 c2_i32_22
  let v42 : BitVec 32 := Scalar.addi c0_i32_23 v41
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v43 : BitVec 32 := Scalar.muli v6 c1_i32_24
  let v44 : BitVec 32 := Scalar.addi v42 v43
  v44.toNat
def k0_cond4 (i : grid0.Coords) : BitVec 1 :=
  let arg0 : BitVec 32 := BitVec.ofNat 32 (i 0).val
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .ne v14 c0_i32_6
  v15

def k0_off6 (i : grid0.Coords) : Fin 1 → Nat :=
  let arg0 : BitVec 32 := BitVec.ofNat 32 (i 0).val
  let c1_i32_9 : BitVec 32 := 1#32
  let v19 : BitVec 32 := Scalar.subi arg0 c1_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  ![v29.toNat]
def k0_off7 (i : grid0.Coords) : Fin 3 → Nat :=
  let arg0 : BitVec 32 := BitVec.ofNat 32 (i 0).val
  let c1_i32_9 : BitVec 32 := 1#32
  let v19 : BitVec 32 := Scalar.subi arg0 c1_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c0_i32_19 : BitVec 32 := 0#32
  let c0_i32_20 : BitVec 32 := 0#32
  ![v29.toNat, 0, 0]
def k0_off8 (i : grid0.Coords) : Fin 3 → Nat :=
  let arg0 : BitVec 32 := BitVec.ofNat 32 (i 0).val
  let c1_i32_9 : BitVec 32 := 1#32
  let v19 : BitVec 32 := Scalar.subi arg0 c1_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v40 : Index := Scalar.indexCast v29
  let c0 : Index := 0#32
  let c0_23 : Index := 0#32
  ![v40.toNat, 0, 0]
def k0_dev3 (d0 : Dev nD) : Nat :=
  let c0_i32_30 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_29 : BitVec 32 := 2#32
  let v50 : BitVec 32 := Scalar.muli v2 c2_i32_29
  let v51 : BitVec 32 := Scalar.addi c0_i32_30 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_31 : BitVec 32 := 1#32
  let v52 : BitVec 32 := Scalar.muli v6 c1_i32_31
  let v53 : BitVec 32 := Scalar.addi v51 v52
  v53.toNat
def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.ISched.lean ====
/-
  The protocol between a device and the other device of its row: who waits, signals and copies on
  which semaphore, how much, and what each hand-over carries.

  Device `c` and its partner `pr c` each hold half of the contraction. At step `j < 16` device `c`
  stores its partial product of column block `j` into slot `j % 2` of its send buffer and copies it
  into slot `j % 2` of the partner's receive buffer; at step `j + 1` it adds the partner's block `j`.
  A receive slot is handed from its owner (the reader) to the partner (the writer) through an
  invariant per slot: the reader releases it once before the first write and again after each read,
  and tells the partner how far it has got by a unit of the barrier and by the credit units.
-/
module

public import proofs.«01_k».proof.Proof.Gen.KernelIdeal.Frame
public import proofs.«01_k».proof.Proof.Gen.KernelIdeal.Skeleton
public import Idealize.ShloMosaic.Lib.Release
public import Idealize.ShloMosaic.Lib.Pipeline.RegionTalk
public import Idealize.ShloMosaic.Lib.Pipeline.SiteBlocks

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

/-! ## Devices, slots and semaphores -/

/-- The other device of the row: the two differ in the last mesh coordinate. -/
def pr (c : Dev nD) : Dev nD := ⟨(2 * (c.val / 2) + 1) - (c.val % 2), by revert c; decide⟩

theorem pr_pr (c : Dev nD) : pr (pr c) = c := by revert c; decide

/-- The slot that block `b` goes through. -/
def sl (b : ℕ) : Fin 2 := ⟨b % 2, Nat.mod_lt _ (by decide)⟩

theorem sl_add_two (b : ℕ) : sl (b + 2) = sl b := by unfold sl; simp

theorem slot_inb : ∀ (s : Fin 2) (a : Fin 3), (![s.val, 0, 0] : Fin 3 → ℕ) a + S1x4096x256.size a ≤ S2x4096x256.size a := by decide
theorem sem_inb : ∀ (s : Fin 2) (a : Fin 1), (![s.val] : Fin 1 → ℕ) a + S1.size a ≤ S2.size a := by decide

/-- Slot `s` as a rectangle of a two-slot buffer. -/
abbrev slotR (s : Fin 2) : Rect S2x4096x256 := Rect.unit (s := S2x4096x256) ![s.val, 0, 0] S1x4096x256.size (slot_inb s)

abbrev sendB : Memref sig .tc .vmem S2x4096x256 .bf16 := Memref.whole cc0_scratch1
abbrev recvB : Memref sig .tc .vmem S2x4096x256 .bf16 := Memref.whole cc0_scratch2
abbrev aB : Memref sig .tc .vmem S4096x2048 .bf16 := Memref.whole cc0_scratch0
abbrev xB : Memref sig .tc .hbm S4096x2048 .bf16 := Memref.whole main_v1

/-- Slot `s` of the send buffer and of the receive buffer. -/
abbrev sendV (s : Fin 2) : Memref sig .tc .vmem S1x4096x256 .bf16 := sendB.slice (slotR s) (fun _ => rfl)
abbrev recvV (s : Fin 2) : Memref sig .tc .vmem S1x4096x256 .bf16 := recvB.slice (slotR s) (fun _ => rfl)
/-- The same slots as the copies name them, the unit axis dropped. -/
abbrev sendQ (s : Fin 2) : Memref sig .tc .vmem S4096x256 .bf16 := (sendV s).squeeze S4096x256 Gen.squeezes_S1x4096x256_S4096x256
abbrev recvQ (s : Fin 2) : Memref sig .tc .vmem S4096x256 .bf16 := (recvV s).squeeze S4096x256 Gen.squeezes_S1x4096x256_S4096x256

/-- The protocol's semaphores: the barrier, the credit, the local copy's, and one per slot for sending and receiving. -/
inductive Site : Type
  | bar | cred | loc | snd (s : Fin 2) | rcv (s : Fin 2)
  deriving DecidableEq

abbrev barS : Sem sig := (SemArray.scalar (sig.barrier 0 rfl) : Sems sig S_).sem
abbrev credS : Sem sig := cc0_scratch6.sem
abbrev locS : DmaSem sig := cc0_scratch3.sem
abbrev sndS (s : Fin 2) : DmaSem sig := ((cc0_scratch4.slice (Rect.unit (s := S2) ![s.val] S1.size (sem_inb s))).squeeze S_ Gen.squeezes_S1_S_).sem
abbrev rcvS (s : Fin 2) : DmaSem sig := ((cc0_scratch5.slice (Rect.unit (s := S2) ![s.val] S1.size (sem_inb s))).squeeze S_ Gen.squeezes_S1_S_).sem

/-- Where each lies in the signature. -/
def semOf : Site → SemLoc sig
  | .bar => .reg barS
  | .cred => .reg credS
  | .loc => .dma locS
  | .snd s => .dma (sndS s)
  | .rcv s => .dma (rcvS s)

/-- Every site, listed. -/
def sites : List Site := [.bar, .cred, .loc, .snd 0, .snd 1, .rcv 0, .rcv 1]

theorem mem_sites : ∀ k : Site, k ∈ sites := by
  rintro (_ | _ | _ | s | s)
  · decide
  · decide
  · decide
  · fin_cases s <;> decide
  · fin_cases s <;> decide

theorem semOf_inj : Function.Injective semOf := by
  have h : ∀ a ∈ sites, ∀ b ∈ sites, semOf a = semOf b → a = b := by decide
  exact fun a b => h a (mem_sites a) b (mem_sites b)

/-- The site at a semaphore, if there is one. -/
def siteOf (sm : SemLoc sig) : Option Site := sites.find? fun k => semOf k = sm

theorem siteOf_semOf : ∀ k, siteOf (semOf k) = some k := by
  have h : ∀ a ∈ sites, siteOf (semOf a) = some a := by decide
  exact fun a => h a (mem_sites a)

/-- Device `c`'s cell at a site. -/
abbrev cell (c : Dev nD) (k : Site) : GSem nD τ sig := ((c : Thread nD τ), semOf k)

theorem cell_inj {c c' : Dev nD} {k k' : Site} (h : cell c k = cell c' k') : c = c' ∧ k = k' := by
  have h1 := congrArg (fun g : GSem nD τ sig => g.1.1) h
  have h2 := congrArg (fun g : GSem nD τ sig => g.2) h
  exact ⟨h1, semOf_inj h2⟩

/-! ## The resource algebra -/

/-- The pipeline's rounds, the protocol's rounds and the receive slots' release counts. -/
abbrev UU : Type := UR sig nD τ × (Rounds.URounds (GSem nD τ sig) ℕ × Release.USlots (Dev nD × Fin 2))

local notation "𝕄" => MT nD τ sig ℕ (Elt F) ℕ UU ℕ

abbrev EP : Emb (UR sig nD τ) (MT nD τ sig ℕ (Elt F) ℕ UU ℕ) := embL
abbrev ER : Emb (Rounds.URounds (GSem nD τ sig) ℕ) (MT nD τ sig ℕ (Elt F) ℕ UU ℕ) := (Emb.inl).trans embR
abbrev ES : Emb (Release.USlots (Dev nD × Fin 2)) (MT nD τ sig ℕ (Elt F) ℕ UU ℕ) := (Emb.inr).trans embR

variable (m : (ℓ : Loc nD τ sig) → Buf (Elt F) ℓ)

/-! ## Contents -/

/-- Device `c`'s left operand, rounded: what the host's cast left. -/
abbrev Aof (c : Dev nD) : Vec F S4096x2048 .bf16 := Gen.V m c main_v1

/-- The point that fetches column block `b`. -/
def pt (b : ℕ) : Fin cfg0.N := ⟨min b 16, by have := Gen.N_0; show _ < grid0.N; omega⟩

/-- Device `c`'s partial product of column block `b`, rounded. -/
def part (c : Dev nD) (b : ℕ) : Vec F S1x4096x256 .bf16 := Gen.k0_pay1 (Aof m c) (Gen.iblk m c 0 (pt b))

/-! ## What each hand-over carries -/

/-- Half of a slot goes with a transfer, half stays for the device's own load. -/
abbrev qL : PosShare TreeShare := fullShare.left
abbrev qR : PosShare TreeShare := fullShare.right

/-- How often slot `s` has been read when `n` blocks have been read. -/
def cnt (n : ℕ) (s : Fin 2) : ℕ := (n + 1 - s.val) / 2

/-- Device `d` has read `n` blocks: each of its receive slots has been released once at the start and
    once more for every read, and its receive cells stand at the matching rounds; its credit cell is open. -/
def heard (d : Dev nD) (n : ℕ) : sProp 𝕄 :=
  iprop(reached ER (cell d .cred) 0 ∗ (Release.released ES (d, (0 : Fin 2)) (cnt n 0 + 1) ∗ reached ER (cell d (.rcv 0)) (cnt n 0))
    ∗ (Release.released ES (d, (1 : Fin 2)) (cnt n 1 + 1) ∗ reached ER (cell d (.rcv 1)) (cnt n 1)))

instance heard_persistent (d : Dev nD) (n : ℕ) : BI.Persistent (heard (F := F) d n) := by unfold heard; infer_instance
instance heard_storable (d : Dev nD) (n : ℕ) : BI.Storable (upEmb : UEmb _ 𝕄) (heard d n) := by unfold heard; infer_instance

theorem cnt_mono {n n' : ℕ} (h : n' ≤ n) (s : Fin 2) : cnt n' s ≤ cnt n s := by unfold cnt; omega

theorem heard_mono (d : Dev nD) {n n' : ℕ} (h : n' ≤ n) : heard d n ⊢ (heard d n' : sProp 𝕄) := by
  unfold heard
  exact BI.sep_mono (BI.Entails.refl _) <| BI.sep_mono
    (BI.sep_mono (Release.released_mono _ (Nat.succ_le_succ (cnt_mono h 0))) (reached_mono _ (cnt_mono h 0)))
    (BI.sep_mono (Release.released_mono _ (Nat.succ_le_succ (cnt_mono h 1))) (reached_mono _ (cnt_mono h 1)))

/-- What is heard covers the credit cell. -/
theorem heard_cred (d : Dev nD) (n : ℕ) : heard d n ⊢ (reached ER (cell d .cred) 0 : sProp 𝕄) := by
  unfold heard; iintro ⟨H, -⟩; iexact H

/-- What is heard covers slot `s`. -/
theorem heard_at (d : Dev nD) (n : ℕ) (s : Fin 2) :
    heard d n ⊢ (iprop(Release.released ES (d, s) (cnt n s + 1) ∗ reached ER (cell d (.rcv s)) (cnt n s)) : sProp 𝕄) := by
  unfold heard
  fin_cases s
  · iintro ⟨-, H, -⟩; iexact H
  · iintro ⟨-, -, H⟩; iexact H

/-- Reading block `b` on top of `b` blocks. -/
theorem heard_succ (d : Dev nD) (b : ℕ) :
    iprop(heard d b ∗ Release.released ES (d, sl b) (b / 2 + 2) ∗ reached ER (cell d (.rcv (sl b))) (b / 2 + 1)) ⊢ (heard d (b + 1) : sProp 𝕄) := by
  rcases Nat.mod_two_eq_zero_or_one b with h | h
  · have hs : sl b = 0 := Fin.ext h
    have h0 : cnt (b + 1) 0 = b / 2 + 1 := by unfold cnt; simp; omega
    have h1 : cnt (b + 1) 1 = cnt b 1 := by unfold cnt; simp; omega
    unfold heard
    rw [hs, h0, h1]
    iintro ⟨⟨Hc, -, H1⟩, Hn, Hn'⟩
    isplitl [Hc]; · iexact Hc
    isplitl [Hn Hn']
    · isplitl [Hn]; · iexact Hn
      iexact Hn'
    iexact H1
  · have hs : sl b = 1 := Fin.ext h
    have h0 : cnt (b + 1) 0 = cnt b 0 := by unfold cnt; simp; omega
    have h1 : cnt (b + 1) 1 = b / 2 + 1 := by unfold cnt; simp; omega
    unfold heard
    rw [hs, h0, h1]
    iintro ⟨⟨Hc, H0, -⟩, Hn, Hn'⟩
    isplitl [Hc]; · iexact Hc
    isplitl [H0]; · iexact H0
    isplitl [Hn]; · iexact Hn
    iexact Hn'

/-- The units of a transfer of one slot, and of the local copy. -/
abbrev NS : ℕ := (recvQ 0).view.dmaCredit
abbrev NA : ℕ := aB.view.dmaCredit
theorem NS_pos : 0 < NS := View.dmaCredit_pos _ (by decide)
theorem NA_pos : 0 < NA := View.dmaCredit_pos _ (by decide)

/-- The rounds of a site and their duties: one round of one duty at the barrier and the local copy, one round of
    sixteen unit duties at the credit, eight rounds of one transfer at each slot's cells. -/
def dutiesAt : Site → ℕ → Finset ℕ
  | .bar, r => if r = 0 then {0} else ∅
  | .loc, r => if r = 0 then {0} else ∅
  | .cred, r => if r = 0 then Finset.range 16 else ∅
  | .snd _, r => if r < 8 then {0} else ∅
  | .rcv _, r => if r < 8 then {0} else ∅

def amountAt : Site → ℕ
  | .bar => 1
  | .cred => 1
  | .loc => NA
  | .snd _ => NS
  | .rcv _ => NS

theorem amountAt_pos : ∀ k, 0 < amountAt k := by
  rintro (_ | _ | _ | s | s)
  · exact Nat.one_pos
  · exact Nat.one_pos
  · exact NA_pos
  · exact NS_pos
  · exact NS_pos

/-- What duty `d` of round `r` hands to device `c` at a site. -/
def payAt (c : Dev nD) : Site → ℕ → ℕ → sProp 𝕄
  | .bar, _, _ => heard (pr c) 0
  | .cred, _, d => heard (pr c) (d + 1)
  | .loc, _, _ => iprop(owns (c : Thread nD τ) xB fullShare (Aof m c) ∗ owns (c : Thread nD τ) aB fullShare (Aof m c))
  | .snd s, r, _ => owns (c : Thread nD τ) (sendV s) qL (part m c (2 * r + s.val))
  | .rcv s, r, _ => owns (c : Thread nD τ) (recvV s) fullShare (part m (pr c) (2 * r + s.val))

instance payAt_storable (c : Dev nD) (k : Site) (r d : ℕ) : BI.Storable (upEmb : UEmb _ 𝕄) (payAt m c k r d) := by
  cases k <;> (dsimp only [payAt]; infer_instance)

/-- The schedule. -/
def Rd : Rounds.Schedule (GSem nD τ sig) ℕ 𝕄 where
  duties g r := if g.1.2 = .tc then (siteOf g.2).elim ∅ (fun k => dutiesAt k r) else ∅
  unitless _ := False
  amount g _ _ := (siteOf g.2).elim 1 amountAt
  payload g r d := (siteOf g.2).elim iprop(emp) (fun k => payAt m g.1.1 k r d)
  amount_pos g _ _ _ := by
    cases h : siteOf g.2 with
    | none => exact Nat.one_pos
    | some k => exact amountAt_pos k

instance Rd_payload_storable (g : GSem nD τ sig) (r d : ℕ) : BI.Storable (upEmb : UEmb _ 𝕄) ((Rd (F := F) m).payload g r d) := by
  show BI.Storable upEmb ((siteOf g.2).elim iprop(emp) (fun k => payAt m g.1.1 k r d))
  cases siteOf g.2 with
  | none => dsimp only [Option.elim]; infer_instance
  | some k => dsimp only [Option.elim]; infer_instance

theorem duties_cell (c : Dev nD) (k : Site) (r : ℕ) : (Rd (F := F) m).duties (cell c k) r = dutiesAt k r := by
  dsimp only [Rd]; rw [if_pos rfl, siteOf_semOf]; rfl
theorem amount_cell (c : Dev nD) (k : Site) (r d : ℕ) : (Rd (F := F) m).amount (cell c k) r d = amountAt k := by
  dsimp only [Rd]; rw [siteOf_semOf]; rfl
theorem payload_cell (c : Dev nD) (k : Site) (r d : ℕ) : (Rd (F := F) m).payload (cell c k) r d = payAt m c k r d := by
  dsimp only [Rd]; rw [siteOf_semOf]; rfl
theorem expect_cell (c : Dev nD) (k : Site) (r : ℕ) : (Rd (F := F) m).expect (cell c k) r = (dutiesAt k r).card * amountAt k := by
  unfold Schedule.expect Schedule.amountOf
  rw [duties_cell, Finset.sum_congr rfl fun d _ => amount_cell m c k r d, Finset.sum_const, smul_eq_mul]

/-- The rounds after which a site has no duty. -/
def endAt : Site → ℕ
  | .snd _ => 8
  | .rcv _ => 8
  | _ => 1

theorem dutiesAt_end : ∀ (k : Site) (r : ℕ), endAt k ≤ r → dutiesAt k r = ∅ := by
  rintro (_ | _ | _ | s | s) r h <;> dsimp only [endAt, dutiesAt] at * <;> rw [if_neg (by omega)]

theorem duties_end (c : Dev nD) (k : Site) : ∀ r, endAt k ≤ r → (Rd (F := F) m).duties (cell c k) r = ∅ :=
  fun r h => (duties_cell m c k r).trans (dutiesAt_end k r h)

/-- A cell past its last round gives its counter back, at zero. -/
theorem close (κ : ℕ) (c : Dev nD) (k : Site) {R : ℕ} (hR : R = endAt k) :
    iprop(cellInv ER (Rd m) κ (cell c k) ∗ atPos ER (cell c k) R ∅ 0) ⊢ (|={Set.univ}=> semVal (cell c k) 0 : sProp 𝕄) := by
  subst hR
  exact Rounds.cell_close ER (Rd m) (Set.mem_univ κ) id (duties_end m c k)

end Cert.KernelIdeal.Run

end
-- ==== Proof.IDues.lean ====
/-
  What a device still has to pay on its partner's semaphores before each step, what it still
  waits for on its own, and why every wait of the kernel lies below everything its device owes.

  Indices double as levels: the barrier at 1, the copy of block `b` at `2 b + 2`, the credit unit
  paid at step `k` at `2 k + 1`, but for the last two, which one wait of two units collects at 33.
-/
module

public import proofs.«01_k».proof.Proof.ISched
public import Mathlib.Algebra.BigOperators.Intervals

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev Tallies : Type := CellTallies nD τ sig ℕ

/-- The index of the credit unit that step `k` pays. -/
def cIx (k : ℕ) : ℕ := if k < 15 then 2 * k + 1 else 33

/-- The three kinds of payment at step `k`, on device `e`'s cells. -/
def payBar (e : Dev nD) (k : ℕ) : Tallies := if k = 0 then tallyAt (cell e .bar) 1 1 else 0
def payRcv (e : Dev nD) (k : ℕ) : Tallies := if k < 16 then tallyAt (cell e (.rcv (sl k))) (2 * k + 2) NS else 0
def payCred (e : Dev nD) (k : ℕ) : Tallies := if 0 < k then tallyAt (cell e .cred) (cIx k) 1 else 0
def pays (e : Dev nD) (k : ℕ) : Tallies := payBar e k + payRcv e k + payCred e k

/-- What device `c` still owes before step `t`. -/
def dueFrom (c : Dev nD) (t : ℕ) : Tallies := ∑ k ∈ Finset.Ico t 17, pays (pr c) k

theorem dueFrom_succ (c : Dev nD) {t : ℕ} (h : t < 17) : dueFrom c t = pays (pr c) t + dueFrom c (t + 1) := by
  unfold dueFrom; exact Finset.sum_eq_sum_Ico_succ_bot h _

theorem dueFrom_end (c : Dev nD) : dueFrom c 17 = 0 := by unfold dueFrom; simp

/-- What a device waits for on its own cells at step `k`, barrier, receive and credit. -/
def getRcv (e : Dev nD) (k : ℕ) : Tallies := if 0 < k then tallyAt (cell e (.rcv (sl (k - 1)))) (2 * (k - 1) + 2) NS else 0
def getCred (e : Dev nD) (k : ℕ) : Tallies :=
  (if 2 ≤ k ∧ k < 16 then tallyAt (cell e .cred) (cIx (k - 1)) 1 else 0) + (if k = 16 then tallyAt (cell e .cred) 33 2 else 0)
def gets (e : Dev nD) (k : ℕ) : Tallies := payBar e k + getRcv e k + getCred e k

/-- What device `c` still waits for before step `t`. -/
def waitFrom (c : Dev nD) (t : ℕ) : Tallies := ∑ k ∈ Finset.Ico t 17, gets c k

theorem waitFrom_succ (c : Dev nD) {t : ℕ} (h : t < 17) : waitFrom c t = gets c t + waitFrom c (t + 1) := by
  unfold waitFrom; exact Finset.sum_eq_sum_Ico_succ_bot h _

theorem tallyAt_two (g : GSem nD τ sig) (i : ℕ) : (tallyAt g i 2 : Tallies) = tallyAt g i 1 + tallyAt g i 1 := by
  exact (tallyAt_add g i 1 1).symm

/-- On one device's cells, the payments of all steps are the waits of all steps. -/
theorem pays_eq_gets (e : Dev nD) : (∑ k ∈ Finset.Ico 0 17, pays e k) = ∑ k ∈ Finset.Ico 0 17, gets e k := by
  unfold pays gets
  simp only [Finset.sum_add_distrib]
  congr 1
  · congr 1
    unfold payRcv getRcv
    have h : ∀ f : ℕ → Tallies, (∑ k ∈ Finset.Ico 0 17, if k < 16 then f k else 0) = ∑ k ∈ Finset.Ico 0 17, if 0 < k then f (k - 1) else 0 := by
      intro f
      simp [Finset.sum_Ico_eq_sum_range, Finset.sum_range_succ]
    exact h fun k => tallyAt (cell e (.rcv (sl k))) (2 * k + 2) NS
  · unfold payCred getCred
    rw [tallyAt_two]
    have h : ∀ g : ℕ → Tallies, (∑ k ∈ Finset.Ico 0 17, if 0 < k then g (cIx k) else 0)
        = ∑ k ∈ Finset.Ico 0 17, ((if 2 ≤ k ∧ k < 16 then g (cIx (k - 1)) else 0) + (if k = 16 then g 33 + g 33 else 0)) := by
      intro g
      simp [Finset.sum_Ico_eq_sum_range, Finset.sum_range_succ, cIx]
      try abel
    exact h fun i => tallyAt (cell e .cred) i 1

/-- The devices' dues at the launch are, summed, the devices' waits. -/
theorem sum_dueFrom : (∑ d : Dev nD, dueFrom d 0) = ∑ d : Dev nD, waitFrom d 0 := by
  have e : Function.Involutive (pr) := pr_pr
  calc (∑ d : Dev nD, dueFrom d 0) = ∑ d : Dev nD, waitFrom (pr d) 0 :=
        Finset.sum_congr rfl fun d _ => by unfold dueFrom waitFrom; exact pays_eq_gets (pr d)
    _ = ∑ d : Dev nD, waitFrom d 0 := Equiv.sum_comp (e.toPerm) fun d => waitFrom d 0

/-! ## Where dues and waits lie -/

/-- A tally lies on TensorCore cells, at indices from `b` up to 39. -/
def From (b : ℕ) (T : Tallies) : Prop := ∀ (g : GSem nD τ sig) (i : ℕ), 0 < T g i → i ∈ SiteBlocks.L 40 g ∧ b ≤ i

theorem From.zero (b : ℕ) : From b 0 := fun _ _ h => absurd h (Nat.lt_irrefl 0)
theorem From.add {b : ℕ} {S T : Tallies} (hS : From b S) (hT : From b T) : From b (S + T) := fun g i h =>
  (Pipeline.add_pos_cases h).elim (hS g i) (hT g i)
theorem From.mono {b b' : ℕ} {S : Tallies} (h : From b S) (hb : b' ≤ b) : From b' S := fun g i hi => ⟨(h g i hi).1, hb.trans (h g i hi).2⟩
theorem From.at {b i n : ℕ} (c : Dev nD) (k : Site) (hb : b ≤ i) (hi : i < 40) : From b (tallyAt (cell c k) i n) := fun g j h => by
  obtain ⟨rfl, rfl⟩ := Pipeline.tallyAt_pos h
  exact ⟨SiteBlocks.mem_L c _ hi, hb⟩

theorem from_payCred (e : Dev nD) {k : ℕ} (hk : k < 17) : From (2 * k + 1) (payCred e k) := by
  unfold payCred; split
  · exact From.at e .cred (by unfold cIx; split <;> omega) (by unfold cIx; split <;> omega)
  · exact From.zero _
theorem from_payRcv (e : Dev nD) (k : ℕ) : From (2 * k + 2) (payRcv e k) := by
  unfold payRcv; split
  · exact From.at e _ (le_refl _) (by omega)
  · exact From.zero _
theorem from_pays (e : Dev nD) {k : ℕ} (hk : k < 17) : From (2 * k + 1) (pays e k) := by
  refine From.add (From.add ?_ ((from_payRcv e k).mono (by omega))) (from_payCred e hk)
  unfold payBar; split
  · exact From.at e .bar (by omega) (by omega)
  · exact From.zero _
theorem From.sum {b : ℕ} {s : Finset ℕ} {f : ℕ → Tallies} (h : ∀ k ∈ s, From b (f k)) : From b (∑ k ∈ s, f k) :=
  Finset.sum_induction f (From b) (fun _ _ => From.add) (From.zero b) h
theorem from_dueFrom (c : Dev nD) (t : ℕ) : From (2 * t + 1) (dueFrom c t) :=
  From.sum fun k hk => (from_pays (pr c) (Finset.mem_Ico.mp hk).2).mono (by have := (Finset.mem_Ico.mp hk).1; omega)

/-- A wait at an index below everything owed may be made. -/
theorem mayWait {i b : ℕ} (hi : i < 40) (c : Dev nD) (sm : SemLoc sig) {O : Tallies} (hO : From b O) (hb : i < b) :
    (levAts (SiteBlocks.L 40) SiteBlocks.lv : sProp 𝕄) ⊢ MayWait (c : Thread nD τ) sm i O :=
  SiteBlocks.mayWait_of hi c sm O fun g k h => ⟨(hO g k h).1, lt_of_lt_of_le hb (hO g k h).2⟩

/-- A device's waits lie on its own cells. -/
theorem waitFrom_own (d : Dev nD) (g : GSem nD τ sig) (h : waitFrom d 0 g ≠ 0) : g.1 = (d : Thread nD τ) := by
  have own : ∀ (T : Tallies), (∀ g, T g ≠ 0 → g.1 = (d : Thread nD τ)) → ∀ T' : Tallies, (∀ g, T' g ≠ 0 → g.1 = (d : Thread nD τ)) →
      ∀ g, (T + T') g ≠ 0 → g.1 = (d : Thread nD τ) := fun T hT T' hT' g hg => by
    by_contra hne
    refine hg ?_
    rw [Pi.add_apply, not_not.mp (mt (hT g) hne), not_not.mp (mt (hT' g) hne), add_zero]
  have zero : ∀ g, (0 : Tallies) g ≠ 0 → g.1 = (d : Thread nD τ) := fun g hg => absurd rfl hg
  have one : ∀ (k : Site) (i n : ℕ) (g), (tallyAt (cell d k) i n : Tallies) g ≠ 0 → g.1 = (d : Thread nD τ) := fun k i n g hg => by
    by_contra hne
    refine hg ?_
    unfold tallyAt tallyOn
    exact Pi.single_eq_of_ne (fun e => hne (by rw [e])) _
  refine Finset.sum_induction (fun k => gets d k) (fun T : Tallies => ∀ g, T g ≠ 0 → g.1 = (d : Thread nD τ))
    (fun a b ha hb => own a ha b hb) zero (fun k _ => ?_) g h
  refine own _ (own _ ?_ _ ?_) _ (own _ ?_ _ ?_)
  · unfold payBar; split; exacts [one _ _ _, zero]
  · unfold getRcv; split; exacts [one _ _ _, zero]
  · split; exacts [one _ _ _, zero]
  · split; exacts [one _ _ _, zero]

/-- The launch deals each device the credit of its own waits. -/
theorem launch_waits (c : Dev nD) : (Pipeline.launchCred (fun d => dueFrom d 0) c : sProp 𝕄) = cred (waitFrom c 0) :=
  Pipeline.launchCred_of_sum _ _ sum_dueFrom waitFrom_own c

end Cert.KernelIdeal.Run

end
-- ==== Proof.IActs.lean ====
/-
  The kernel's memory operations and semaphore operations, one rule each: loads and stores through a
  slot, the transfer of a slot to the partner, the wait for one transfer.
-/
module

public import proofs.«01_k».proof.Proof.IDues
public import Idealize.ShloMosaic.Lib.MemrefSat
public import Idealize.ShloMosaic.Lib.ViewIndex

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (m : (ℓ : Loc nD τ sig) → Buf (Elt F) ℓ)

/-- The memref at some contents. -/
def raw (c : Dev nD) {sp : Space} {s : Shape} {e : EltTy} (M : Memref sig .tc sp s e) : sProp 𝕄 :=
  Release.slot (M.view.loc (c : Thread nD τ)) M.view.set

instance raw_storable (c : Dev nD) {sp : Space} {s : Shape} {e : EltTy} (M : Memref sig .tc sp s e) :
    BI.Storable (upEmb : UEmb _ 𝕄) (raw c M) := by unfold raw Release.slot; infer_instance

/-- Known contents are some contents. -/
theorem raw_of_owns (c : Dev nD) {sp : Space} {s : Shape} {e : EltTy} (M : Memref sig .tc sp s e) (X : s.Idx → Elt F e) :
    owns (c : Thread nD τ) M fullShare X ⊢ (raw c M : sProp 𝕄) := by
  unfold owns raw Release.slot
  iintro ⟨%f, -, H⟩; iexists f; iexact H

/-- What the writer of device `d`'s receive slots is promised. -/
def Sl (x : Dev nD × Fin 2) : sProp 𝕄 := raw x.1 (recvV x.2)
instance Sl_storable (x : Dev nD × Fin 2) : BI.Storable (upEmb : UEmb _ 𝕄) (Sl (F := F) x) := by unfold Sl; infer_instance

theorem slot_nonempty {sp : Space} {s : Shape} {e : EltTy} (M : Memref sig .tc sp s e) (h : 0 < s.numel) : M.view.set.Nonempty := by
  rw [← Finset.card_pos, View.card_set]; exact h

theorem Sl_excl (x : Dev nD × Fin 2) : iprop(Sl x ∗ Sl x) ⊢ (False : sProp 𝕄) :=
  Release.slot_slot_false (slot_nonempty (recvV x.2) (by decide))

/-- Every cell of the protocol. -/
def allCells : Finset (GSem nD τ sig) := (Finset.univ : Finset (Dev nD)).biUnion fun d => (sites.map (cell d)).toFinset

theorem mem_allCells (d : Dev nD) (k : Site) : cell d k ∈ allCells :=
  Finset.mem_biUnion.mpr ⟨d, Finset.mem_univ _, List.mem_toFinset.mpr (List.mem_map_of_mem (mem_sites k))⟩

/-- What every step may use: the cells' invariants, the receive slots' invariants and the levels. -/
def ctx (K : GSem nD τ sig → ℕ) (κ : Dev nD × Fin 2 → ℕ) : sProp 𝕄 :=
  iprop((bigSep allCells fun g => cellInv ER (Rd m) (K g) g)
    ∗ (bigSep Finset.univ fun x => Release.slotInv ES (κ x) x (Sl x))
    ∗ levAts (SiteBlocks.L 40) SiteBlocks.lv)

instance ctx_persistent (K : GSem nD τ sig → ℕ) (κ : Dev nD × Fin 2 → ℕ) : BI.Persistent (ctx (F := F) m K κ) := by
  unfold ctx; infer_instance

variable {m} {K : GSem nD τ sig → ℕ} {κ : Dev nD × Fin 2 → ℕ}

theorem ctx_cell (d : Dev nD) (k : Site) : ctx m K κ ⊢ (cellInv ER (Rd m) (K (cell d k)) (cell d k) : sProp 𝕄) := by
  refine BIBase.Entails.trans (Q := bigSep allCells fun g => cellInv ER (Rd m) (K g) g) ?_ (bigSep_elim (Φ := fun g => cellInv ER (Rd m) (K g) g) (mem_allCells d k))
  unfold ctx; iintro ⟨H, -, -⟩; iexact H
theorem ctx_slot (x : Dev nD × Fin 2) : ctx m K κ ⊢ (Release.slotInv ES (κ x) x (Sl x) : sProp 𝕄) := by
  refine BIBase.Entails.trans (Q := bigSep Finset.univ fun x => Release.slotInv ES (κ x) x (Sl x)) ?_ (bigSep_elim (Φ := fun x => Release.slotInv ES (κ x) x (Sl x)) (Finset.mem_univ x))
  unfold ctx; iintro ⟨-, H, -⟩; iexact H
theorem ctx_lev : ctx m K κ ⊢ (levAts (SiteBlocks.L 40) SiteBlocks.lv : sProp 𝕄) := by
  unfold ctx; iintro ⟨-, -, H⟩; iexact H

/-! ## Loads and stores -/

section Mem
variable (c : Dev nD) {α : Type} {cs : CoreSpace} {s : Shape} {e : EltTy}

/-- A load through a rectangle owned at `X` reads `X`. -/
theorem wp_load_owns {Q : α → sProp 𝕄} {M : Memref sig .tc cs s e} {r : Rect s} (hr : ∀ a, r.stride a = 1) {hl : M.view.LoadsAt r}
    {k : (r.shape.Idx → Elt F e) → Prog (TpuEff nD τ sig (Elt F) Λ₀ .tc) α} {q : PosShare TreeShare} (X : r.shape.Idx → Elt F e) :
    (owns (c : Thread nD τ) (M.slice r hr) q X)
      ⊢ (iprop((owns (c : Thread nD τ) (M.slice r hr) q X -∗ wp frame (wpE (defs₀ (F := F)) 𝒱₀ (c : Thread nD τ) none) Set.univ (k X) Q)
        -∗ wp frame (wpE (defs₀ (F := F)) 𝒱₀ (c : Thread nD τ) none) Set.univ (.op (.load M r hl) k) Q) : sProp 𝕄) := by
  unfold owns
  iintro ⟨%f, %hf, H⟩ Hk
  iapply (wp_load_rect 𝒱₀ (c : Thread nD τ) none Set.univ (m := M) (r := r) (q := q) (f := f) (Finset.Subset.refl _)) $$ H
  iintro H
  rw [show (M.access r).read (Elt F) f = X from hf]
  iapply Hk
  iexists f; isplitr; · ipureintro; exact hf
  iexact H

/-- A store through a rectangle leaves what was stored. -/
theorem wp_store_raw {Q : α → sProp 𝕄} {M : Memref sig .tc cs s e} {r : Rect s} (hr : ∀ a, r.stride a = 1) {w : r.shape.Idx → Elt F e}
    {hx : (M.access r).Stores Finset.univ} {hm : Finset.univ = Finset.univ ∨ ∀ a, r.stride a = 1}
    {k : PUnit → Prog (TpuEff nD τ sig (Elt F) Λ₀ .tc) α} :
    (raw c (M.slice r hr))
      ⊢ (iprop((owns (c : Thread nD τ) (M.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) : sProp 𝕄) := by
  unfold raw owns Release.slot
  iintro ⟨%f, H⟩ Hk
  iapply (wp_store 𝒱₀ (c : Thread nD τ) none Set.univ (m := M) (r := r) (w := w) (f := f) (S := (M.slice r hr).view.set) (Finset.Subset.refl _)) $$ H
  iintro H
  iapply Hk
  iexists _; isplitr
  · ipureintro; exact View.read_write_univ f w
  iexact H

/-- A load through a rectangle of elements owned at some contents reads something and leaves them. -/
theorem wp_load_raw {Q : α → sProp 𝕄} {M : Memref sig .tc cs s e} {r : Rect s} (hr : ∀ a, r.stride a = 1) {hl : M.view.LoadsAt r}
    {k : (r.shape.Idx → Elt F e) → Prog (TpuEff nD τ sig (Elt F) Λ₀ .tc) α} :
    (raw c (M.slice r hr))
      ⊢ (iprop((∀ X, raw c (M.slice r hr) -∗ wp frame (wpE (defs₀ (F := F)) 𝒱₀ (c : Thread nD τ) none) Set.univ (k X) Q)
        -∗ wp frame (wpE (defs₀ (F := F)) 𝒱₀ (c : Thread nD τ) none) Set.univ (.op (.load M r hl) k) Q) : sProp 𝕄) := by
  unfold raw Release.slot
  iintro ⟨%f, H⟩ Hk
  iapply (wp_load_rect 𝒱₀ (c : Thread nD τ) none Set.univ (m := M) (r := r) (q := fullShare) (f := f) (S := (M.slice r hr).view.set) (Finset.Subset.refl _)) $$ H
  iintro H
  iapply Hk
  iexists f; iexact H

end Mem

/-- The rectangle of everything names the memref itself. -/
theorem owns_full (c : Dev nD) {sp : Space} {s : Shape} {e : EltTy} (M : Memref sig .tc sp s e) {off : Fin s.rank → ℕ} (h : off = fun _ => 0)
    (inb : ∀ a, off a + s.size a ≤ s.size a) (hr : ∀ a, (Rect.unit off s.size inb).stride a = 1) (q : PosShare TreeShare) (X : s.Idx → Elt F e) :
    (owns (c : Thread nD τ) (M.slice (Rect.unit off s.size inb) hr) q X : sProp 𝕄) = owns (c : Thread nD τ) M q X := by
  subst h
  have hs : (M.slice (Rect.unit (fun _ => 0) s.size inb) hr).view.set = M.view.set := View.set_slice_rectWhole M.view
  have hrd : ∀ f, (M.slice (Rect.unit (fun _ => 0) s.size inb) hr).view.read (Elt F) f = M.view.read (Elt F) f := fun f => by
    funext x
    show M.view.read (Elt F) f ((Rect.whole s).emb x) = M.view.read (Elt F) f x
    rw [Rect.emb_whole_apply]
  unfold owns
  rw [hs]
  simp only [hrd]

theorem raw_full (c : Dev nD) {sp : Space} {s : Shape} {e : EltTy} (M : Memref sig .tc sp s e) {off : Fin s.rank → ℕ} (h : off = fun _ => 0)
    (inb : ∀ a, off a + s.size a ≤ s.size a) (hr : ∀ a, (Rect.unit off s.size inb).stride a = 1) :
    (raw c (M.slice (Rect.unit off s.size inb) hr) : sProp 𝕄) = raw c M := by
  subst h
  have hs : (M.slice (Rect.unit (fun _ => 0) s.size inb) hr).view.set = M.view.set := View.set_slice_rectWhole M.view
  unfold raw
  rw [hs]

/-! ## One transfer's wait -/

/-- A wait for the one transfer of a cell's round. -/
theorem wp_wait_one (c : Dev nD) {α : Type} {Q : α → sProp 𝕄} {w : TpuEff nD τ sig (Elt F) Λ₀ .tc PUnit} (s : Site) {n : ℕ}
    (hw : ∀ K : PUnit → sProp 𝕄, wpE (defs₀ (F := F)) 𝒱₀ (c : Thread nD τ) none Set.univ w K = waitSpec (c : Thread nD τ) Set.univ (semOf s) n K)
    (hn : n = amountAt s) (r : ℕ) (hr : dutiesAt s r = {0}) (i : ℕ) {O : Tallies} {W : Waits sig ℕ}
    {k : PUnit → Prog (TpuEff nD τ sig (Elt F) Λ₀ .tc) α} :
    iprop(ctx m K κ ∗ cred (tallyAt (cell c s) i (amountAt s)) ∗ owes (c : Thread nD τ) O W ∗ MayWait (c : Thread nD τ) (semOf s) i O ∗ atPos ER (cell c s) r ∅ 0)
      ⊢ (iprop(((owes (c : Thread nD τ) O (insert (semOf s, i) W) ∗ atPos ER (cell c s) (r + 1) ∅ 0 ∗ reached ER (cell c s) (r + 1) ∗ payAt m c s r 0)
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) : sProp 𝕄) := by
  subst hn
  have hrest : (bigSep ((Rd (F := F) m).duties (cell c s) r \ ∅) fun d => (Rd m).payload (cell c s) r d : sProp 𝕄) = payAt m c s r 0 := by
    rw [duties_cell, hr, Finset.sdiff_empty, BI.bigSep_singleton, payload_cell]
  iintro ⟨#Hctx, Hc, HO, Hmay, Hat⟩ Hk
  ihave #Hinv := (ctx_cell (m := m) (K := K) (κ := κ) c s) $$ Hctx
  iapply (Rounds.wp_wait_rest_token 𝒱₀ ER (Rd m) (c : Thread nD τ) none (κ := K (cell c s)) (sm := semOf s) hw (Set.mem_univ _) i (O := O) (W := W) (R := r) (m := 0) (T := ∅)
    (by rw [Nat.zero_add, expect_cell, hr, Finset.card_singleton, Nat.one_mul])) $$ [Hc HO Hmay Hat]
  · isplitr; · iexact Hinv
    isplitl [Hc]; · iexact Hc
    isplitl [HO]; · iexact HO
    isplitl [Hmay]; · iexact Hmay
    iexact Hat
  iintro ⟨HO, Hat, Hre, Hp⟩
  iapply Hk
  isplitl [HO]; · iexact HO
  isplitl [Hat]; · iexact Hat
  isplitl [Hre]; · iexact Hre
  iapply (Entails.of_eq hrest) $$ Hp

/-- A signal that pays a unit duty of device `d`'s cell. -/
theorem wp_signal_one (c d : Dev nD) {α : Type} {Q : α → sProp 𝕄} (s : Site) {sem : Sem sig} (hsem : semOf s = .reg sem) (h1 : amountAt s = 1)
    (u : ℕ) (hu : u ∈ dutiesAt s 0) (i : ℕ) (O : Tallies) {W : Waits sig ℕ} {O₀ : Tallies} (hO : O₀ = O + tallyAt (cell d s) i 1)
    {k : PUnit → Prog (TpuEff nD τ sig (Elt F) Λ₀ .tc) α} :
    iprop(ctx m K κ ∗ owes (c : Thread nD τ) O₀ W ∗ dutyTok ER (cell d s) 0 u ∗ payAt m d s 0 u ∗ reached ER (cell d s) 0)
      ⊢ (iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) sem ((1 : ℕ) : ℤ)) k) Q) : sProp 𝕄) := by
  have hcell : cell d s = ((d : Thread nD τ), .reg sem) := by unfold cell; rw [hsem]
  have h2 : u ∈ (Rd (F := F) m).duties ((d : Thread nD τ), .reg sem) 0 := by rw [← hcell, duties_cell]; exact hu
  have h3 : (Rd (F := F) m).amount ((d : Thread nD τ), .reg sem) 0 u = 1 := by rw [← hcell, amount_cell]; exact h1
  have h4 : (Rd (F := F) m).payload ((d : Thread nD τ), .reg sem) 0 u = payAt m d s 0 u := by rw [← hcell, payload_cell]
  rw [hcell] at hO ⊢
  iintro ⟨#Hctx, HO, Htok, Hp, Hre⟩ Hk
  ihave #Hinv := (ctx_cell (m := m) (K := K) (κ := κ) d s) $$ Hctx
  rw [hcell]
  iapply (Rounds.wp_signal 𝒱₀ ER (Rd m) (c : Thread nD τ) none (dst := (d : Thread nD τ)) (sem := sem) (r := 0) (d := u) (k' := 1) (κ := K ((d : Thread nD τ), .reg sem))
    h2 h3 i O hO) $$ [HO Htok Hp Hre]
  · rw [h4]
    isplitr; · iexact Hinv
    isplitl [HO]; · iexact HO
    isplitl [Htok]; · iexact Htok
    isplitl [Hp]; · iexact Hp
    iexact Hre
  iexact Hk

/-! ## The transfer of a slot -/

/-- A slot of a two-slot buffer at any offsets, the unit axis dropped, and a semaphore of a pair. -/
abbrev slotAt (B : Memref sig .tc .vmem S2x4096x256 .bf16) (o : Fin 3 → ℕ) (p : ∀ a, o a + S1x4096x256.size a ≤ S2x4096x256.size a) : Memref sig .tc .vmem S4096x256 .bf16 :=
  (B.slice (Rect.unit (s := S2x4096x256) o S1x4096x256.size p) (fun _ => rfl)).squeeze S4096x256 Gen.squeezes_S1x4096x256_S4096x256
abbrev semAt (A : DmaSems sig S2) (o : Fin 1 → ℕ) (p : ∀ a, o a + S1.size a ≤ S2.size a) : DmaSem sig :=
  ((A.slice (Rect.unit (s := S2) o S1.size p)).squeeze S_ Gen.squeezes_S1_S_).sem

theorem recv_landed (d : Dev nD) (s : Fin 2) (fd : Buf (Elt F) ((recvQ s).view.loc (d : Thread nD τ))) (c : Dev nD)
    (fs : Buf (Elt F) ((sendQ s).view.loc (c : Thread nD τ))) (X : Vec F S1x4096x256 .bf16) (hX : (sendV s).view.read (Elt F) fs = X) :
    ((recvQ s).view.loc (d : Thread nD τ) ↦[(recvQ s).view.set]{fullShare} (recvQ s).view.write (Elt F) fd ((sendQ s).view.read (Elt F) fs) Finset.univ)
      ⊢ (owns (d : Thread nD τ) (recvV s) fullShare X : sProp 𝕄) := by
  have hset : (recvQ s).view.set = (recvV s).view.set := View.set_reshape _ _
  rw [hset]
  unfold owns
  iintro H
  iexists _; isplitr
  · ipureintro
    rw [← hX]
    funext x
    obtain ⟨y, rfl⟩ := (Shape.reshapeEquiv (Gen.squeezes_S1x4096x256_S4096x256.numel_eq)).surjective x
    exact (View.read_write_reshape (recvV s).view Gen.squeezes_S1x4096x256_S4096x256.numel_eq fd _ y)
  iexact H

/-- Device `c` copies slot `s`, holding block `b`, to its partner: half of the slot goes along, the partner's receive slot
    must have been given up for this write. -/
theorem wp_send_slot (c : Dev nD) {α : Type} {Q : α → sProp 𝕄} (s : Fin 2) (r : ℕ) (hr : r < 8) {o : Fin 3 → ℕ} {o' : Fin 1 → ℕ} (ho : o = ![s.val, 0, 0]) (ho' : o' = ![s.val])
    {p : ∀ a, o a + S1x4096x256.size a ≤ S2x4096x256.size a} {p' : ∀ a, o' a + S1.size a ≤ S2.size a} {d : Dev nD} (hd : d = pr c)
    {hsrc : (slotAt sendB o p).view.WordExact} {hdst : (slotAt recvB o p).view.WordExact} {hsc : (slotAt recvB o p).view.ref.isScScratch = false}
    {hty : DmaTarget.Typed (nD := nD) .vmem (.dma (semAt cc0_scratch5 o' p')) (.remote (Dev.tc d) (slotAt recvB o p) (.dma (semAt cc0_scratch4 o' p')) hsc)} {O₀ O : Tallies} (hO : O₀ = O + tallyAt (cell (pr c) (.rcv s)) (2 * (2 * r + s.val) + 2) NS) {W : Waits sig ℕ}
    {k : PUnit → Prog (TpuEff nD τ sig (Elt F) Λ₀ .tc) α} :
    iprop(ctx m K κ ∗ owns (c : Thread nD τ) (sendV s) fullShare (part m c (2 * r + s.val)) ∗ owes (c : Thread nD τ) O₀ W
        ∗ Release.released ES (pr c, s) (r + 1) ∗ Release.writeTok ES (pr c, s) (r + 1)
        ∗ dutyTok ER (cell c (.snd s)) r 0 ∗ reached ER (cell c (.snd s)) r
        ∗ dutyTok ER (cell (pr c) (.rcv s)) r 0 ∗ reached ER (cell (pr c) (.rcv s)) r)
      ⊢ (iprop(((cred (tallyAt (cell c (.snd s)) 0 NS) ∗ owns (c : Thread nD τ) (sendV s) qR (part m c (2 * r + s.val)) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slotAt sendB o p) (.remote (Dev.tc d) (slotAt recvB o p) (.dma (semAt cc0_scratch4 o' p')) hsc) (.dma (semAt cc0_scratch5 o' p')) hsrc hdst hty) k) Q) : sProp 𝕄) := by
  subst ho ho' hd
  have hset : (sendQ s).view.set = (sendV s).view.set := View.set_reshape _ _
  have hsetR : (recvQ s).view.set = (recvV s).view.set := View.set_reshape _ _
  iintro ⟨#Hctx, Hown, HO, Hrel, Hwt, Htk, Hr1, Htk2, Hr2⟩ Hk
  ihave #Hi1 := (ctx_cell (m := m) (K := K) (κ := κ) c (.snd s)) $$ Hctx
  ihave #Hi2 := (ctx_cell (m := m) (K := K) (κ := κ) (pr c) (.rcv s)) $$ Hctx
  ihave #Hi3 := (ctx_slot (m := m) (K := K) (κ := κ) (pr c, s)) $$ Hctx
  imod (Release.slot_take ES (Set.mem_univ (κ (pr c, s))) (r + 1)) $$ [Hrel Hwt] with Hsl
  · isplitr; · iexact Hi3
    isplitl [Hrel] <;> iassumption
  unfold Sl raw Release.slot
  icases Hsl with ⟨%fd, Hsl⟩
  ihave Hown := (owns_halves (c : Thread nD τ) (sendV s) fullShare (part m c (2 * r + s.val))).1 $$ Hown
  icases Hown with ⟨Hl, HrR⟩
  unfold owns
  icases Hl with ⟨%fs, %hfs, Hl⟩
  iapply (Rounds.wp_send_pointsTo 𝒱₀ ER (Rd m) (c : Thread nD τ) none (c' := (pr c : Thread nD τ)) (src := sendQ s) (dst := recvQ s)
      (sS := .dma (sndS s)) (sem := .dma (rcvS s)) (q := qL) (fs := fs) (κ₁ := K (cell c (.snd s))) (κ₂ := K (cell (pr c) (.rcv s)))
      (r₁ := r) (r₂ := r) (d₁ := 0) (d₂ := 0) (fd := fd)
      (by rw [show ((c : Thread nD τ), SemLoc.dma (sndS s)) = cell c (.snd s) from rfl, duties_cell]; simp [dutiesAt, hr])
      (by rw [show ((pr c : Thread nD τ), SemLoc.dma (rcvS s)) = cell (pr c) (.rcv s) from rfl, duties_cell]; simp [dutiesAt, hr])
      (2 * (2 * r + s.val) + 2) 0 NS rfl (amount_cell m c (.snd s) r 0) (amount_cell m (pr c) (.rcv s) r 0) O hO (W := W)
      (by
        rw [show ((c : Thread nD τ), SemLoc.dma (sndS s)) = cell c (.snd s) from rfl, payload_cell, hset]
        unfold payAt owns
        iintro H; iexists fs; isplitr; · ipureintro; exact hfs
        iexact H)
      (by
        rw [show ((pr c : Thread nD τ), SemLoc.dma (rcvS s)) = cell (pr c) (.rcv s) from rfl, payload_cell]
        unfold payAt; rw [pr_pr]
        exact recv_landed (pr c) s fd c fs _ hfs)) $$ [Hl Hsl HO Htk Hr1 Htk2 Hr2]
  · isplitr; · iexact Hi1
    isplitr; · iexact Hi2
    isplitl [Hl]; · rw [hset]; iexact Hl
    isplitl [Hsl]; · rw [hsetR]; iexact Hsl
    isplitl [HO]; · iexact HO
    isplitl [Htk]; · iexact Htk
    isplitl [Hr1]; · iexact Hr1
    isplitl [Htk2]; · iexact Htk2
    iexact Hr2
  iintro ⟨Hc, HO⟩
  iapply Hk
  isplitl [Hc]; · iexact Hc
  isplitl [HrR]; · iexact HrR
  iexact HO

end Cert.KernelIdeal.Run

end
-- ==== Proof.ISteps.lean ====
/-
  The kernel's stretches, each as one rule: taking a send slot back and collecting a credit unit; the
  product of a block, its store and its transfer; the arrival of the partner's block, the sum and the
  credit unit paid for it.
-/
module

public import proofs.«01_k».proof.Proof.IActs

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The pieces of a device's state -/

/-- The device owes `O`. -/
def owesE (c : Dev nD) (O : Tallies) : sProp 𝕄 := iprop(∃ W, owes (c : Thread nD τ) O W)

/-- The send slot that block `b` will go through is free. -/
def SF (c : Dev nD) (b : ℕ) : sProp 𝕄 :=
  iprop(raw c (sendV (sl b)) ∗ atPos ER (cell c (.snd (sl b))) (b / 2) ∅ 0 ∗ reached ER (cell c (.snd (sl b))) (b / 2))

/-- Block `b` is on its way: half of its send slot is here, the other half comes back with the transfer. -/
def SI (c : Dev nD) (b : ℕ) : sProp 𝕄 :=
  iprop(cred (tallyAt (cell c (.snd (sl b))) 0 NS) ∗ owns (c : Thread nD τ) (sendV (sl b)) qR (part m c b) ∗ atPos ER (cell c (.snd (sl b))) (b / 2) ∅ 0)

/-- Block `b` has not been received: the receive cell's position, and how often its slot has been released. -/
def RP (c : Dev nD) (b : ℕ) : sProp 𝕄 :=
  iprop(atPos ER (cell c (.rcv (sl b))) (b / 2) ∅ 0 ∗ Release.readerAt ES (c, sl b) (b / 2 + 1))

/-- `n` credit units have been collected. -/
def Cr (c : Dev nD) (n : ℕ) : sProp 𝕄 :=
  iprop(∃ S : Finset ℕ, ⌜S ⊆ Finset.range 16⌝ ∗ atPos ER (cell c .cred) 0 S n ∗ bigSep S fun d => heard (pr c) (d + 1))

/-- The tokens that the transfer of block `b` uses. -/
def sendTok (c : Dev nD) (b : ℕ) : sProp 𝕄 :=
  iprop(dutyTok ER (cell c (.snd (sl b))) (b / 2) 0 ∗ dutyTok ER (cell (pr c) (.rcv (sl b))) (b / 2) 0 ∗ Release.writeTok ES (pr c, sl b) (b / 2 + 1))

theorem two_div_add (b : ℕ) : 2 * (b / 2) + (sl b).val = b := by
  show 2 * (b / 2) + b % 2 = b; omega

theorem payAt_snd (c : Dev nD) (b : ℕ) : payAt m c (.snd (sl b)) (b / 2) 0 = owns (c : Thread nD τ) (sendV (sl b)) qL (part m c b) := by
  show owns (c : Thread nD τ) (sendV (sl b)) qL (part m c (2 * (b / 2) + (sl b).val)) = _
  rw [two_div_add]
theorem payAt_rcv (c : Dev nD) (b : ℕ) : payAt m c (.rcv (sl b)) (b / 2) 0 = owns (c : Thread nD τ) (recvV (sl b)) fullShare (part m (pr c) b) := by
  show owns (c : Thread nD τ) (recvV (sl b)) fullShare (part m (pr c) (2 * (b / 2) + (sl b).val)) = _
  rw [two_div_add]

theorem duties_slot {r : ℕ} (hr : r < 8) (s : Fin 2) : dutiesAt (.snd s) r = {0} ∧ dutiesAt (.rcv s) r = {0} := by
  unfold dutiesAt; simp [hr]

variable {m} {K : GSem nD τ sig → ℕ} {κ : Dev nD × Fin 2 → ℕ}

section Seg
variable (c : Dev nD) {α : Type}

/-- The wait for the transfer of block `b` to have left: the send slot is free again. -/
theorem wp_reclaim {Q : α → sProp 𝕄} (b : ℕ) (hb : b < 16) {o1 : Fin 1 → ℕ} {o2 : Fin 3 → ℕ} (ho1 : o1 = ![(sl b).val])
    {p1 : ∀ a, o1 a + S1.size a ≤ S2.size a} {p2 : ∀ a, o2 a + S1x4096x256.size a ≤ S2x4096x256.size a} {O : Tallies} (hO : From 1 O)
    {h1 : (slotAt recvB o2 p2).view.WordExact} {h2 : (slotAt sendB o2 p2).view.WordExact}
    {k : PUnit → Prog (TpuEff nD τ sig (Elt F) Λ₀ .tc) α} :
    iprop(ctx m K κ ∗ SI m c b ∗ owesE c O)
      ⊢ (iprop((SF c (b + 2) ∗ owesE c O -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (semAt cc0_scratch4 o1 p1) (slotAt recvB o2 p2) (slotAt sendB o2 p2) h1 h2) k) Q) : sProp 𝕄) := by
  subst ho1
  have hn : (slotAt sendB o2 p2).view.dmaCredit = amountAt (.snd (sl b)) := rfl
  have hw : ∀ K : PUnit → sProp 𝕄, wpE (defs₀ (F := F)) 𝒱₀ (c : Thread nD τ) none Set.univ (.waitDma2 (semAt cc0_scratch4 ![(sl b).val] p1) (slotAt recvB o2 p2) (slotAt sendB o2 p2) h1 h2) K
      = waitSpec (c : Thread nD τ) Set.univ (semOf (.snd (sl b))) (slotAt sendB o2 p2).view.dmaCredit K := fun _ => rfl
  unfold SI owesE
  iintro ⟨#Hctx, ⟨Hc, Hown, Hat⟩, ⟨%W, HO⟩⟩ Hk
  ihave #Hlev := (ctx_lev (m := m) (K := K) (κ := κ)) $$ Hctx
  iapply (wp_wait_one (m := m) (K := K) (κ := κ) c (.snd (sl b)) hw hn (b / 2)
    (duties_slot (by omega) (sl b)).1 0 (O := O) (W := W)) $$ [Hc HO Hat]
  · isplitr; · iexact Hctx
    isplitl [Hc]; · iexact Hc
    isplitl [HO]; · iexact HO
    isplitr; · iapply (mayWait (by decide) c _ hO (by decide)); iexact Hlev
    iexact Hat
  iintro ⟨HO, Hat, Hre, Hp⟩
  iapply Hk
  isplitr [HO]
  · unfold SF
    rw [sl_add_two, Nat.add_div_right b (by decide)]
    isplitl [Hown Hp]
    · iapply (raw_of_owns c (sendV (sl b)) (part m c b))
      iapply (owns_halves (c : Thread nD τ) (sendV (sl b)) fullShare (part m c b)).2
      isplitl [Hp]
      · iapply (Entails.of_eq (payAt_snd m c b)) $$ Hp
      iexact Hown
    isplitl [Hat]; · iexact Hat
    iexact Hre
  iexists _; iexact HO

/-- The wait for one credit unit at step `n + 2`: the partner has read `n + 1` blocks. -/
theorem wp_credit {Q : α → sProp 𝕄} (n : ℕ) (hn : n < 14) {O : Tallies} (hO : From (2 * n + 4) O)
    {k : PUnit → Prog (TpuEff nD τ sig (Elt F) Λ₀ .tc) α} :
    iprop(ctx m K κ ∗ Cr c n ∗ cred (tallyAt (cell c .cred) (cIx (n + 1)) 1) ∗ owesE c O)
      ⊢ (iprop((Cr c (n + 1) ∗ heard (pr c) (n + 1) ∗ owesE c O -∗ wp frame (wpE (defs₀ (F := F)) 𝒱₀ (c : Thread nD τ) none) Set.univ (k ⟨⟩) Q)
        -∗ wp frame (wpE (defs₀ (F := F)) 𝒱₀ (c : Thread nD τ) none) Set.univ (.op (.semWait credS ((1 : ℕ) : ℤ)) k) Q) : sProp 𝕄) := by
  have hix : cIx (n + 1) = 2 * n + 3 := by unfold cIx; split <;> omega
  have hpay : ∀ T : Finset ℕ, (bigSep T fun d => (Rd m).payload (cell c .cred) 0 d : sProp 𝕄) = bigSep T fun d => heard (pr c) (d + 1) :=
    fun T => bigSep_congr fun d _ => payload_cell m c .cred 0 d
  rw [hix]
  unfold Cr owesE
  iintro ⟨#Hctx, ⟨%S, %hS, Hat, #Hh⟩, Hc, ⟨%W, HO⟩⟩ Hk
  ihave #Hlev := (ctx_lev (m := m) (K := K) (κ := κ)) $$ Hctx
  ihave #Hinv := (ctx_cell (m := m) (K := K) (κ := κ) c .cred) $$ Hctx
  iapply (Rounds.wp_wait 𝒱₀ ER (Rd m) (c : Thread nD τ) none (κ := K (cell c .cred)) (sm := semOf .cred) (wpE_semWait_eq 𝒱₀ (c : Thread nD τ) none Set.univ) (Set.mem_univ _)
    (cr := Finsupp.single (2 * n + 3) 1) (O := O) (W := W) {(semOf .cred, 2 * n + 3)} (R := 0) (m := n) (T := S)
    (by rw [Util.total_single]) (image_single_subset (semOf .cred) (2 * n + 3) 1)) $$ [Hc HO Hat]
  · isplitr; · iexact Hinv
    isplitl [Hc]; · iexact Hc
    isplitl [HO]; · iexact HO
    isplitr; · iapply (mayWait (by omega) c _ hO (by omega)); iexact Hlev
    iexact Hat
  iintro %S' ⟨%hS', HO, Hat, Hp⟩
  rw [duties_cell, expect_cell] at hS'
  ihave #Hp := (Entails.of_eq (hpay (S' \ S))) $$ Hp
  have h16 : S' ⊆ Finset.range 16 := hS'.2.1
  have hex : ∃ d ∈ S', n ≤ d := by
    by_contra hne
    have h1 : S' ⊆ Finset.range n := fun d hd => Finset.mem_range.mpr (Nat.lt_of_not_le fun h => hne ⟨d, hd, h⟩)
    have h2 := Finset.card_le_card h1
    have h3 := Finset.card_sdiff_add_card_eq_card h16
    have h4 : n + 1 + (Finset.range 16 \ S').card ≤ (Finset.range 16).card * 1 := hS'.2.2
    rw [Finset.card_range] at h2 h3 h4
    omega
  obtain ⟨d, hd, hnd⟩ := hex
  have hall : iprop((bigSep S fun d => heard (pr c) (d + 1)) ∗ bigSep (S' \ S) fun d => heard (pr c) (d + 1)) ⊢ (bigSep S' fun d => heard (pr c) (d + 1) : sProp 𝕄) :=
    Entails.of_eq (bigSep_sdiff_split hS'.1).symm
  have hone : (bigSep S' fun d => heard (pr c) (d + 1) : sProp 𝕄) ⊢ heard (pr c) (n + 1) :=
    BIBase.Entails.trans (Q := heard (pr c) (d + 1)) (bigSep_elim (Φ := fun d => heard (pr c) (d + 1)) hd) (heard_mono (pr c) (show n + 1 ≤ d + 1 by omega))
  ihave #Hall := hall $$ [Hh Hp]
  · isplitr; · iexact Hh
    iexact Hp
  iapply Hk
  isplitl [Hat]
  · iexists S'; isplitr; · ipureintro; exact h16
    isplitl [Hat]; · iexact Hat
    iexact Hall
  isplitr
  · iapply hone; iexact Hall
  iexists _; iexact HO

/-- The last credit wait, of two units: the credit cell is finished and closed. -/
theorem wp_credit_last {Q : α → sProp 𝕄} {k : PUnit → Prog (TpuEff nD τ sig (Elt F) Λ₀ .tc) α} :
    iprop(ctx m K κ ∗ Cr c 14 ∗ cred (tallyAt (cell c .cred) 33 2) ∗ owesE c 0)
      ⊢ (iprop((semVal (cell c .cred) 0 ∗ owesE c 0 -∗ wp frame (wpE (defs₀ (F := F)) 𝒱₀ (c : Thread nD τ) none) Set.univ (k ⟨⟩) Q)
        -∗ wp frame (wpE (defs₀ (F := F)) 𝒱₀ (c : Thread nD τ) none) Set.univ (.op (.semWait credS ((2 : ℕ) : ℤ)) k) Q) : sProp 𝕄) := by
  unfold Cr owesE
  iintro ⟨#Hctx, ⟨%S, %hS, Hat, -⟩, Hc, ⟨%W, HO⟩⟩ Hk
  ihave #Hlev := (ctx_lev (m := m) (K := K) (κ := κ)) $$ Hctx
  ihave #Hinv := (ctx_cell (m := m) (K := K) (κ := κ) c .cred) $$ Hctx
  iapply (Rounds.wp_wait_rest_token 𝒱₀ ER (Rd m) (c : Thread nD τ) none (κ := K (cell c .cred)) (sm := semOf .cred) (wpE_semWait_eq 𝒱₀ (c : Thread nD τ) none Set.univ) (Set.mem_univ _) 33
    (O := 0) (W := W) (R := 0) (m := 14) (T := S) (by rw [expect_cell]; rfl)) $$ [Hc HO Hat]
  · isplitr; · iexact Hinv
    isplitl [Hc]; · iexact Hc
    isplitl [HO]; · iexact HO
    isplitr; · iapply (mayWait (by decide) c _ (From.zero 34) (by decide)); iexact Hlev
    iexact Hat
  iintro ⟨HO, Hat, -, -⟩
  imod (close (m := m) (K (cell c .cred)) c .cred (R := 0 + 1) rfl) $$ [Hat] with Hz
  · isplitr; · iexact Hinv
    iexact Hat
  iapply Hk
  isplitl [Hz]; · iexact Hz
  iexists _; iexact HO

/-- The device's block of `A` is copied into its scratch buffer; the copy's semaphore is finished. -/
theorem wp_fetch {Q : α → sProp 𝕄} {O : Tallies} (hO : From 1 O)
    {h1 : xB.view.WordExact} {h2 : aB.view.WordExact} {hty : DmaTarget.Typed (nD := nD) (τ := τ) (p := Proc.tc) .hbm (.dma locS) (.here aB)} {h1' : xB.view.WordExact} {h2' : aB.view.WordExact}
    {k : PUnit → Prog (TpuEff nD τ sig (Elt F) Λ₀ .tc) α} :
    iprop(ctx m K κ ∗ raw c aB ∗ owns (c : Thread nD τ) xB fullShare (Aof m c) ∗ atPos ER (cell c .loc) 0 ∅ 0 ∗ reached ER (cell c .loc) 0
        ∗ dutyTok ER (cell c .loc) 0 0 ∗ owesE c O)
      ⊢ (iprop((owns (c : Thread nD τ) xB fullShare (Aof m c) ∗ owns (c : Thread nD τ) aB fullShare (Aof m c) ∗ semVal (cell c .loc) 0 ∗ owesE c O
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma xB (.here aB) (.dma locS) h1 h2 hty) fun _ => .op (.waitDma2 locS xB aB h1' h2') k) Q) : sProp 𝕄) := by
  have hn : aB.view.dmaCredit = amountAt .loc := rfl
  have hw : ∀ K : PUnit → sProp 𝕄, wpE (defs₀ (F := F)) 𝒱₀ (c : Thread nD τ) none Set.univ (.waitDma2 locS xB aB h1' h2') K
      = waitSpec (c : Thread nD τ) Set.univ (semOf .loc) aB.view.dmaCredit K := fun _ => rfl
  have hd : (0 : ℕ) ∈ (Rd (F := F) m).duties ((c : Thread nD τ), .dma locS) 0 := by
    rw [show ((c : Thread nD τ), SemLoc.dma locS) = cell c .loc from rfl, duties_cell]; simp [dutiesAt]
  have hpl : (Rd (F := F) m).payload ((c : Thread nD τ), .dma locS) 0 0 = iprop(owns (c : Thread nD τ) xB fullShare (Aof m c) ∗ owns (c : Thread nD τ) aB fullShare (Aof m c)) :=
    payload_cell m c .loc 0 0
  unfold owesE raw Release.slot
  iintro ⟨#Hctx, ⟨%fd, Ha⟩, Hx, Hat, #Hre, Htk, ⟨%W, HO⟩⟩ Hk
  ihave #Hlev := (ctx_lev (m := m) (K := K) (κ := κ)) $$ Hctx
  ihave #Hinv := (ctx_cell (m := m) (K := K) (κ := κ) c .loc) $$ Hctx
  unfold owns
  icases Hx with ⟨%fs, %hfs, Hx⟩
  iapply (Rounds.wp_copy_pointsTo 𝒱₀ ER (Rd m) (c : Thread nD τ) none (src := xB) (dst := aB) (sem := .dma locS) (q := fullShare) (fs := fs) (fd := fd) (r := 0) (d := 0)
    (κ := K (cell c .loc)) hd 0 NA rfl (amount_cell m c .loc 0 0)
    (by
      rw [hpl]
      unfold owns
      iintro ⟨Ha, Hx⟩
      isplitl [Hx]
      · iexists fs; isplitr; · ipureintro; exact hfs
        iexact Hx
      iexists _; isplitr
      · ipureintro; exact (View.read_write_univ fd _).trans hfs
      iexact Ha)) $$ [Hx Ha Htk]
  · isplitr; · iexact Hinv
    isplitl [Hx]; · iexact Hx
    isplitl [Ha]; · iexact Ha
    isplitl [Htk]; · iexact Htk
    iexact Hre
  iintro Hc
  iapply (wp_wait_one (m := m) (K := K) (κ := κ) c .loc hw hn 0 rfl 0 (O := O) (W := W)) $$ [Hc HO Hat]
  · isplitr; · iexact Hctx
    isplitl [Hc]; · iexact Hc
    isplitl [HO]; · iexact HO
    isplitr; · iapply (mayWait (by decide) c _ hO (by decide)); iexact Hlev
    iexact Hat
  iintro ⟨HO, Hat, -, Hp⟩
  imod (close (m := m) (K (cell c .loc)) c .loc (R := 0 + 1) rfl) $$ [Hat] with Hz
  · isplitr; · iexact Hinv
    iexact Hat
  unfold payAt owns
  icases Hp with ⟨Hx, Ha⟩
  iapply Hk
  isplitl [Hx]; · iexact Hx
  isplitl [Ha]; · iexact Ha
  isplitl [Hz]; · iexact Hz
  iexists _; iexact HO

/-- The barrier: each device tells its partner that both its receive slots may be written. -/
theorem wp_meet {Q : α → sProp 𝕄} {d : Dev nD} (hd : d = pr c) {O₀ O : Tallies} (hO₀ : O₀ = O + tallyAt (cell (pr c) .bar) 1 1) (hO : From 2 O)
    {k : PUnit → Prog (TpuEff nD τ sig (Elt F) Λ₀ .tc) α} :
    iprop(ctx m K κ ∗ atPos ER (cell c .bar) 0 ∅ 0 ∗ dutyTok ER (cell (pr c) .bar) 0 0 ∗ reached ER (cell (pr c) .bar) 0
        ∗ cred (tallyAt (cell c .bar) 1 1) ∗ heard c 0 ∗ owesE c O₀)
      ⊢ (iprop((heard (pr c) 0 ∗ semVal (cell c .bar) 0 ∗ owesE c O -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal (d : Thread nD τ) barS ((1 : ℕ) : ℤ)) fun _ => .op (.semWait barS ((1 : ℕ) : ℤ)) k) Q) : sProp 𝕄) := by
  subst hd
  have hp : (payAt m (pr c) .bar 0 0 : sProp 𝕄) = heard c 0 := by show heard (pr (pr c)) 0 = _; rw [pr_pr]
  unfold owesE
  iintro ⟨#Hctx, Hat, Htk, Hre, Hc, Hh, ⟨%W, HO⟩⟩ Hk
  ihave #Hlev := (ctx_lev (m := m) (K := K) (κ := κ)) $$ Hctx
  ihave #Hinv := (ctx_cell (m := m) (K := K) (κ := κ) c .bar) $$ Hctx
  iapply (wp_signal_one (m := m) (K := K) (κ := κ) c (pr c) .bar rfl rfl 0 (by simp [dutiesAt]) 1 O hO₀ (W := W)) $$ [Htk Hre Hh HO]
  · isplitr; · iexact Hctx
    isplitl [HO]; · iexact HO
    isplitl [Htk]; · iexact Htk
    isplitl [Hh]; · rw [hp]; iexact Hh
    iexact Hre
  iintro HO
  iapply (wp_wait_one (m := m) (K := K) (κ := κ) c .bar (wpE_semWait_eq 𝒱₀ (c : Thread nD τ) none Set.univ) rfl 0 rfl 1 (O := O) (W := W)) $$ [Hc HO Hat]
  · isplitr; · iexact Hctx
    isplitl [Hc]; · iexact Hc
    isplitl [HO]; · iexact HO
    isplitr; · iapply (mayWait (by decide) c _ hO (by decide)); iexact Hlev
    iexact Hat
  iintro ⟨HO, Hat, -, Hp⟩
  imod (close (m := m) (K (cell c .bar)) c .bar (R := 0 + 1) rfl) $$ [Hat] with Hz
  · isplitr; · iexact Hinv
    iexact Hat
  iapply Hk
  isplitl [Hp]; · unfold payAt; iexact Hp
  isplitl [Hz]; · iexact Hz
  iexists _; iexact HO

theorem zero2 : (![0, 0] : Fin 2 → ℕ) = fun _ => 0 := by funext a; fin_cases a <;> rfl

/-- Block `b` of the product is computed, put into its send slot and sent to the partner. -/
theorem wp_multiply {Q : α → sProp 𝕄} (b : ℕ) (hb : b < 16) {t : Fin cfg0.N} (ht : pt b = t) {M2 : Memref sig .tc .vmem S2048x256 .bf16}
    {ia : ∀ a, (![0, 0] : Fin 2 → ℕ) a + S4096x2048.size a ≤ S4096x2048.size a} {ib : ∀ a, (![0, 0] : Fin 2 → ℕ) a + S2048x256.size a ≤ S2048x256.size a}
    {la : aB.view.LoadsAt (Rect.unit (s := S4096x2048) ![0, 0] S4096x2048.size ia).toLoadRect} {lb : M2.view.LoadsAt (Rect.unit (s := S2048x256) ![0, 0] S2048x256.size ib).toLoadRect}
    {o3 o : Fin 3 → ℕ} {o' : Fin 1 → ℕ} (ho3 : o3 = ![(sl b).val, 0, 0]) (ho : o = ![(sl b).val, 0, 0]) (ho' : o' = ![(sl b).val])
    {p3 : ∀ a, o3 a + S1x4096x256.size a ≤ S2x4096x256.size a} {ls : sendB.view.LoadsAt (Rect.unit (s := S2x4096x256) o3 S1x4096x256.size p3).toLoadRect}
    {hx : (sendB.access (Rect.unit (s := S2x4096x256) o3 S1x4096x256.size p3)).Stores Finset.univ}
    {hm : (Finset.univ : Finset (Rect.unit (s := S2x4096x256) o3 S1x4096x256.size p3).shape.Idx) = Finset.univ ∨ ∀ a, (Rect.unit (s := S2x4096x256) o3 S1x4096x256.size p3).stride a = 1}
    {p : ∀ a, o a + S1x4096x256.size a ≤ S2x4096x256.size a} {p' : ∀ a, o' a + S1.size a ≤ S2.size a} {d : Dev nD} (hd : d = pr c)
    {hsrc : (slotAt sendB o p).view.WordExact} {hdst : (slotAt recvB o p).view.WordExact} {hsc : (slotAt recvB o p).view.ref.isScScratch = false}
    {hty : DmaTarget.Typed (nD := nD) .vmem (.dma (semAt cc0_scratch5 o' p')) (.remote (Dev.tc d) (slotAt recvB o p) (.dma (semAt cc0_scratch4 o' p')) hsc)}
    {O₀ O : Tallies} (hO : O₀ = O + tallyAt (cell (pr c) (.rcv (sl b))) (2 * b + 2) NS)
    {k : PUnit → Prog (TpuEff nD τ sig (Elt F) Λ₀ .tc) α} :
    iprop(ctx m K κ ∗ owns (c : Thread nD τ) aB fullShare (Aof m c) ∗ owns (c : Thread nD τ) M2 fullShare (Gen.iblk m c 0 t) ∗ SF c b ∗ sendTok c b
        ∗ Release.released ES (pr c, sl b) (b / 2 + 1) ∗ reached ER (cell (pr c) (.rcv (sl b))) (b / 2) ∗ owesE c O₀)
      ⊢ (iprop((owns (c : Thread nD τ) aB fullShare (Aof m c) ∗ owns (c : Thread nD τ) M2 fullShare (Gen.iblk m c 0 t) ∗ SI m c b ∗ owesE c O
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load aB (Rect.unit (s := S4096x2048) ![0, 0] S4096x2048.size ia).toLoadRect la) fun v32 =>
            .op (.load M2 (Rect.unit (s := S2048x256) ![0, 0] S2048x256.size ib).toLoadRect lb) fun v33 =>
            .op (.load sendB (Rect.unit (s := S2x4096x256) o3 S1x4096x256.size p3).toLoadRect ls) fun _ =>
            .op (.store sendB (Rect.unit (s := S2x4096x256) o3 S1x4096x256.size p3) (Gen.k0_pay1 v32 v33) Finset.univ hx hm) fun _ =>
            .op (.enqueueDma (slotAt sendB o p) (.remote (Dev.tc d) (slotAt recvB o p) (.dma (semAt cc0_scratch4 o' p')) hsc) (.dma (semAt cc0_scratch5 o' p')) hsrc hdst hty) k) Q) : sProp 𝕄) := by
  subst ho3 ht
  have hsend := fun W : Waits sig ℕ => wp_send_slot (m := m) (K := K) (κ := κ) c (Q := Q) (sl b) (b / 2) (by omega) ho ho' hd (hsrc := hsrc) (hdst := hdst) (hsc := hsc) (hty := hty)
    (O₀ := O₀) (O := O) (by rw [two_div_add]; exact hO) (k := k) (W := W)
  simp only [two_div_add] at hsend
  unfold SF sendTok owesE
  iintro ⟨#Hctx, Ha, HM, ⟨Hraw, Hat, #Hre⟩, ⟨Ht1, Ht2, Hw⟩, Hrel, Hre2, ⟨%W, HO⟩⟩ Hk
  iapply (wp_load_owns c (M := aB) (r := Rect.unit (s := S4096x2048) ![0, 0] S4096x2048.size ia) (fun _ => rfl) (Aof m c)) $$ [Ha]
  · iapply (Entails.of_eq (owns_full c aB zero2 ia (fun _ => rfl) fullShare (Aof m c)).symm) $$ Ha
  iintro Ha
  iapply (wp_load_owns c (M := M2) (r := Rect.unit (s := S2048x256) ![0, 0] S2048x256.size ib) (fun _ => rfl) (Gen.iblk m c 0 (pt b))) $$ [HM]
  · iapply (Entails.of_eq (owns_full c M2 zero2 ib (fun _ => rfl) fullShare (Gen.iblk m c 0 (pt b))).symm) $$ HM
  iintro HM
  iapply (wp_load_raw c (M := sendB) (r := slotR (sl b)) (fun _ => rfl)) $$ Hraw
  iintro %X Hraw
  iapply (wp_store_raw c (M := sendB) (r := slotR (sl b)) (fun _ => rfl)) $$ Hraw
  iintro Hown
  iapply (hsend W) $$ [Hown HO Hrel Hw Ht1 Ht2 Hre2]
  · isplitr; · iexact Hctx
    isplitl [Hown]; · iexact Hown
    isplitl [HO]; · iexact HO
    isplitl [Hrel]; · iexact Hrel
    isplitl [Hw]; · iexact Hw
    isplitl [Ht1]; · iexact Ht1
    isplitr; · iexact Hre
    isplitl [Ht2]; · iexact Ht2
    iexact Hre2
  iintro ⟨Hc, Hown, HO⟩
  iapply Hk
  isplitl [Ha]; · iapply (Entails.of_eq (owns_full c aB zero2 ia (fun _ => rfl) fullShare (Aof m c))) $$ Ha
  isplitl [HM]; · iapply (Entails.of_eq (owns_full c M2 zero2 ib (fun _ => rfl) fullShare (Gen.iblk m c 0 (pt b)))) $$ HM
  isplitr [HO]
  · unfold SI
    isplitl [Hc]; · iexact Hc
    isplitl [Hown]; · iexact Hown
    iexact Hat
  iexists _; iexact HO

/-- The partner's block `b` has arrived: it is added to the device's own, the sum stored, the slot given up for the next write. -/
theorem wp_receive {Q : α → sProp 𝕄} (b : ℕ) (hb : b < 16) {M3 : Memref sig .tc .vmem S4096x256 .f32}
    {o7 o8 : Fin 3 → ℕ} {o6 : Fin 1 → ℕ} (ho7 : o7 = ![(sl b).val, 0, 0]) (ho8 : o8 = ![(sl b).val, 0, 0]) (ho6 : o6 = ![(sl b).val])
    {p6 : ∀ a, o6 a + S1.size a ≤ S2.size a} {p7 : ∀ a, o7 a + S1x4096x256.size a ≤ S2x4096x256.size a} {p8 : ∀ a, o8 a + S1x4096x256.size a ≤ S2x4096x256.size a}
    {h1 : (slotAt sendB o7 p7).view.WordExact} {h2 : (slotAt recvB o7 p7).view.WordExact}
    {l1 : sendB.view.LoadsAt (Rect.unit (s := S2x4096x256) o8 S1x4096x256.size p8).toLoadRect} {l2 : recvB.view.LoadsAt (Rect.unit (s := S2x4096x256) o8 S1x4096x256.size p8).toLoadRect}
    {ic : ∀ a, (![0, 0] : Fin 2 → ℕ) a + S4096x256.size a ≤ S4096x256.size a} {l3 : M3.view.LoadsAt (Rect.unit (s := S4096x256) ![0, 0] S4096x256.size ic).toLoadRect}
    {hx : (M3.access (Rect.unit (s := S4096x256) ![0, 0] S4096x256.size ic)).Stores Finset.univ}
    {hm : (Finset.univ : Finset (Rect.unit (s := S4096x256) ![0, 0] S4096x256.size ic).shape.Idx) = Finset.univ ∨ ∀ a, (Rect.unit (s := S4096x256) ![0, 0] S4096x256.size ic).stride a = 1}
    {O : Tallies} (hO : From (2 * b + 3) O)
    {k : PUnit → Prog (TpuEff nD τ sig (Elt F) Λ₀ .tc) α} :
    iprop(ctx m K κ ∗ SI m c b ∗ RP c b ∗ heard c b ∗ cred (tallyAt (cell c (.rcv (sl b))) (2 * b + 2) NS) ∗ raw c M3 ∗ owesE c O)
      ⊢ (iprop((SI m c b ∗ RP c (b + 2) ∗ heard c (b + 1) ∗ owns (c : Thread nD τ) M3 fullShare (Gen.k0_pay2 (part m c b) (part m (pr c) b)) ∗ owesE c O
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (semAt cc0_scratch5 o6 p6) (slotAt sendB o7 p7) (slotAt recvB o7 p7) h1 h2) fun _ =>
            .op (.load sendB (Rect.unit (s := S2x4096x256) o8 S1x4096x256.size p8).toLoadRect l1) fun v41 =>
            .op (.load recvB (Rect.unit (s := S2x4096x256) o8 S1x4096x256.size p8).toLoadRect l2) fun v45 =>
            .op (.load M3 (Rect.unit (s := S4096x256) ![0, 0] S4096x256.size ic).toLoadRect l3) fun _ =>
            .op (.store M3 (Rect.unit (s := S4096x256) ![0, 0] S4096x256.size ic) (Gen.k0_pay2 v41 v45) Finset.univ hx hm) k) Q) : sProp 𝕄) := by
  subst ho6 ho8
  have hn : (slotAt recvB o7 p7).view.dmaCredit = amountAt (.rcv (sl b)) := rfl
  have hw : ∀ K : PUnit → sProp 𝕄, wpE (defs₀ (F := F)) 𝒱₀ (c : Thread nD τ) none Set.univ (.waitDma2 (semAt cc0_scratch5 ![(sl b).val] p6) (slotAt sendB o7 p7) (slotAt recvB o7 p7) h1 h2) K
      = waitSpec (c : Thread nD τ) Set.univ (semOf (.rcv (sl b))) (slotAt recvB o7 p7).view.dmaCredit K := fun _ => rfl
  unfold RP SI owesE
  iintro ⟨#Hctx, ⟨Hcs, Hs, Hats⟩, ⟨Hat, Hrd⟩, Hh, Hc, HM, ⟨%W, HO⟩⟩ Hk
  ihave #Hlev := (ctx_lev (m := m) (K := K) (κ := κ)) $$ Hctx
  ihave #Hslot := (ctx_slot (m := m) (K := K) (κ := κ) (c, sl b)) $$ Hctx
  iapply (wp_wait_one (m := m) (K := K) (κ := κ) c (.rcv (sl b)) hw hn (b / 2) (duties_slot (by omega) (sl b)).2 (2 * b + 2) (O := O) (W := W)) $$ [Hc HO Hat]
  · isplitr; · iexact Hctx
    isplitl [Hc]; · iexact Hc
    isplitl [HO]; · iexact HO
    isplitr; · iapply (mayWait (by omega) c _ hO (by omega)); iexact Hlev
    iexact Hat
  iintro ⟨HO, Hat, Hre, Hp⟩
  ihave Hp := (Entails.of_eq (payAt_rcv m c b)) $$ Hp
  iapply (wp_load_owns c (M := sendB) (r := slotR (sl b)) (fun _ => rfl) (part m c b)) $$ Hs
  iintro Hs
  iapply (wp_load_owns c (M := recvB) (r := slotR (sl b)) (fun _ => rfl) (part m (pr c) b)) $$ Hp
  iintro Hp
  iapply (wp_load_raw c (M := M3) (r := Rect.unit (s := S4096x256) ![0, 0] S4096x256.size ic) (fun _ => rfl)) $$ [HM]
  · iapply (Entails.of_eq (raw_full c M3 zero2 ic (fun _ => rfl)).symm) $$ HM
  iintro %X HM
  iapply (wp_store_raw c (M := M3) (r := Rect.unit (s := S4096x256) ![0, 0] S4096x256.size ic) (fun _ => rfl)) $$ HM
  iintro HM
  imod (Release.slot_release ES (Set.mem_univ (κ (c, sl b))) (Sl_excl (c, sl b)) (b / 2 + 1)) $$ [Hrd Hp] with ⟨Hrd, Hrel⟩
  · isplitr; · iexact Hslot
    isplitl [Hrd]; · iexact Hrd
    ihave Hp := (raw_of_owns c (recvV (sl b)) (part m (pr c) b)) $$ Hp
    iapply (Entails.of_eq (show raw c (recvV (sl b)) = Sl (c, sl b) from rfl)) $$ Hp
  iapply Hk
  isplitl [Hcs Hs Hats]
  · isplitl [Hcs]; · iexact Hcs
    isplitl [Hs]; · iexact Hs
    iexact Hats
  isplitl [Hat Hrd]
  · rw [sl_add_two, Nat.add_div_right b (by decide)]
    isplitl [Hat]; · iexact Hat
    iexact Hrd
  isplitl [Hh Hrel Hre]
  · iapply (heard_succ c b)
    isplitl [Hh]; · iexact Hh
    isplitl [Hrel]; · iexact Hrel
    iexact Hre
  isplitl [HM]; · iapply (Entails.of_eq (owns_full c M3 zero2 ic (fun _ => rfl) fullShare _)) $$ HM
  iexists _; iexact HO

/-- The credit unit for reading block `b`. -/
theorem wp_pay {Q : α → sProp 𝕄} (b : ℕ) (hb : b < 16) {d : Dev nD} (hd : d = pr c) {O₀ O : Tallies} (hO : O₀ = O + tallyAt (cell (pr c) .cred) (cIx (b + 1)) 1)
    {k : PUnit → Prog (TpuEff nD τ sig (Elt F) Λ₀ .tc) α} :
    iprop(ctx m K κ ∗ dutyTok ER (cell (pr c) .cred) 0 b ∗ reached ER (cell (pr c) .cred) 0 ∗ heard c (b + 1) ∗ owesE c O₀)
      ⊢ (iprop((owesE c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) credS ((1 : ℕ) : ℤ)) k) Q) : sProp 𝕄) := by
  subst hd
  have hp : (payAt m (pr c) .cred 0 b : sProp 𝕄) = heard c (b + 1) := by show heard (pr (pr c)) (b + 1) = _; rw [pr_pr]
  unfold owesE
  iintro ⟨#Hctx, Htk, Hre, Hh, ⟨%W, HO⟩⟩ Hk
  iapply (wp_signal_one (m := m) (K := K) (κ := κ) c (pr c) .cred rfl rfl b (by simp [dutiesAt, hb]) (cIx (b + 1)) O hO (W := W)) $$ [Htk Hre Hh HO]
  · isplitr; · iexact Hctx
    isplitl [HO]; · iexact HO
    isplitl [Htk]; · iexact Htk
    isplitl [Hh]; · rw [hp]; iexact Hh
    iexact Hre
  iintro HO
  iapply Hk
  iexists _; iexact HO

end Seg

end Cert.KernelIdeal.Run

end
-- ==== Proof.IState.lean ====
/-
  What a device holds before each step, and how what it owes and waits for splits at a step.
-/
module

public import proofs.«01_k».proof.Proof.ISteps

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The steps' conditions, offsets and devices -/

theorem cond1_iff : ∀ t : Fin cfg0.N, k0_cond1 (grid0.coords t) = 1#1 ↔ t.val = 0 := by decide
theorem cond2_iff : ∀ t : Fin cfg0.N, k0_cond2 (grid0.coords t) = 1#1 ↔ t.val < 16 := by decide
theorem cond3_iff : ∀ t : Fin cfg0.N, k0_cond3 (grid0.coords t) = 1#1 ↔ 2 ≤ t.val := by decide
theorem cond4_iff : ∀ t : Fin cfg0.N, k0_cond4 (grid0.coords t) = 1#1 ↔ 0 < t.val := by decide
theorem cond5_iff : ∀ t : Fin cfg0.N, Scalar.cmpi .ne (Scalar.extui (Scalar.cmpi .eq (BitVec.ofNat 32 (grid0.coords t 0).val) 16#32)) (0#32) = 1#1 ↔ t.val = 16 := by decide

/-- A step's sends and reclaims go through the slot of its own block. -/
theorem off1_eq : ∀ t : Fin cfg0.N, k0_off1 (grid0.coords t) = ![t.val % 2] := by decide
theorem off3_eq : ∀ t : Fin cfg0.N, k0_off3 (grid0.coords t) = ![t.val % 2, 0, 0] := by decide
theorem off4_eq : ∀ t : Fin cfg0.N, k0_off4 (grid0.coords t) = ![t.val % 2] := by decide
theorem off5_eq : ∀ t : Fin cfg0.N, k0_off5 (grid0.coords t) = ![t.val % 2, 0, 0] := by decide
/-- What a step receives lies in the slot of the block before. -/
theorem off6_eq : ∀ t : Fin cfg0.N, 0 < t.val → k0_off6 (grid0.coords t) = ![(t.val - 1) % 2] := by decide
theorem off7_eq : ∀ t : Fin cfg0.N, 0 < t.val → k0_off7 (grid0.coords t) = ![(t.val - 1) % 2, 0, 0] := by decide
theorem off8_eq : ∀ t : Fin cfg0.N, 0 < t.val → k0_off8 (grid0.coords t) = ![(t.val - 1) % 2, 0, 0] := by decide

theorem dev1_eq (c : Dev nD) (h : k0_dev1 c < nD) : (⟨k0_dev1 c, h⟩ : Dev nD) = pr c := Fin.ext (Gen.k0_dev1_eq c)
theorem dev2_eq (c : Dev nD) (h : k0_dev2 c < nD) : (⟨k0_dev2 c, h⟩ : Dev nD) = pr c := Fin.ext (Gen.k0_dev2_eq c)
theorem dev3_eq (c : Dev nD) (h : k0_dev3 c < nD) : (⟨k0_dev3 c, h⟩ : Dev nD) = pr c := Fin.ext (Gen.k0_dev3_eq c)

theorem pt_val (t : Fin cfg0.N) : pt t.val = t := by
  apply Fin.ext
  have h1 := t.isLt; have h2 : cfg0.N = 17 := Gen.N_0
  show min t.val 16 = t.val; omega

/-! ## What is owed and awaited, step by step -/

theorem due_first (c : Dev nD) : dueFrom c 0 = (dueFrom c 1 + tallyAt (cell (pr c) (.rcv (sl 0))) (2 * 0 + 2) NS) + tallyAt (cell (pr c) .bar) 1 1 := by
  rw [dueFrom_succ c (by decide)]; unfold pays payBar payRcv payCred
  rw [if_pos rfl, if_pos (by decide), if_neg (by decide), add_zero]; abel
theorem due_mid (c : Dev nD) {n : ℕ} (h : n < 15) : dueFrom c (n + 1) = (dueFrom c (n + 2) + tallyAt (cell (pr c) .cred) (cIx (n + 1)) 1)
    + tallyAt (cell (pr c) (.rcv (sl (n + 1)))) (2 * (n + 1) + 2) NS := by
  rw [dueFrom_succ c (by omega)]; unfold pays payBar payRcv payCred
  rw [if_neg (by omega), if_pos (by omega), if_pos (by omega), zero_add]; abel
theorem due_last (c : Dev nD) : dueFrom c (15 + 1) = 0 + tallyAt (cell (pr c) .cred) (cIx (15 + 1)) 1 := by
  rw [dueFrom_succ c (by omega), dueFrom_end]; unfold pays payBar payRcv payCred
  rw [if_neg (by omega), if_neg (by omega), if_pos (by omega)]; abel

theorem wait_first (c : Dev nD) : (cred (waitFrom c 0) : sProp 𝕄) ⊢ iprop(cred (tallyAt (cell c .bar) 1 1) ∗ cred (waitFrom c 1)) := by
  rw [waitFrom_succ c (by decide)]; unfold gets payBar getRcv getCred
  rw [if_pos rfl, if_neg (by decide), if_neg (by decide), if_neg (by decide)]
  simp only [add_zero]
  exact (cred_add _ _).1
theorem wait_second (c : Dev nD) : (cred (waitFrom c (0 + 1)) : sProp 𝕄) ⊢ iprop(cred (tallyAt (cell c (.rcv (sl 0))) (2 * 0 + 2) NS) ∗ cred (waitFrom c (0 + 2))) := by
  rw [waitFrom_succ c (by decide)]; unfold gets payBar getRcv getCred
  rw [if_neg (by decide), if_pos (by decide), if_neg (by decide), if_neg (by decide)]
  simp only [add_zero, zero_add]
  exact (cred_add _ _).1
theorem wait_mid (c : Dev nD) {n : ℕ} (h : n < 14) : (cred (waitFrom c (n + 2)) : sProp 𝕄)
    ⊢ iprop(cred (tallyAt (cell c (.rcv (sl (n + 1)))) (2 * (n + 1) + 2) NS) ∗ cred (tallyAt (cell c .cred) (cIx (n + 1)) 1) ∗ cred (waitFrom c (n + 3))) := by
  rw [waitFrom_succ c (by omega)]; unfold gets payBar getRcv getCred
  rw [if_neg (by omega), if_pos (by omega), if_pos (by omega), if_neg (by omega)]
  simp only [add_zero, zero_add, Nat.add_sub_cancel, show n + 2 - 1 = n + 1 from rfl]
  rw [add_assoc]
  exact BIBase.Entails.trans (cred_add _ _).1 (BI.sep_mono (BI.Entails.refl _) (cred_add _ _).1)
theorem wait_last (c : Dev nD) : (cred (waitFrom c (14 + 2)) : sProp 𝕄)
    ⊢ iprop(cred (tallyAt (cell c (.rcv (sl 15))) (2 * 15 + 2) NS) ∗ cred (tallyAt (cell c .cred) 33 2)) := by
  rw [waitFrom_succ c (by omega)]; unfold gets payBar getRcv getCred
  rw [if_neg (by omega), if_pos (by omega), if_neg (by omega), if_pos (by omega)]
  have h0 : waitFrom c (14 + 2 + 1) = 0 := by unfold waitFrom; simp
  rw [h0]
  simp only [add_zero, zero_add]
  exact (cred_add _ _).1

/-! ## The states -/

/-- The send slots before step `t`. -/
def Snd (c : Dev nD) : ℕ → sProp 𝕄
  | 0 => iprop(SF c 0 ∗ SF c 1)
  | 1 => iprop(SI m c 0 ∗ SF c 1)
  | n + 2 => iprop(SI m c n ∗ SI m c (n + 1))

/-- The tokens of the transfers from block `t` on. -/
def sendToks (c : Dev nD) (t : ℕ) : sProp 𝕄 := bigSep (Finset.Ico t 16) (sendTok c)
/-- The tokens of the credit units from block `t` on. -/
def credToks (c : Dev nD) (t : ℕ) : sProp 𝕄 := bigSep (Finset.Ico t 16) fun d => dutyTok ER (cell (pr c) .cred) 0 d
/-- What lets a device take its own receive slots back at the end. -/
def backToks (c : Dev nD) : sProp 𝕄 := iprop(Release.writeTok ES (c, (0 : Fin 2)) 9 ∗ Release.writeTok ES (c, (1 : Fin 2)) 9)

theorem Ico_take {t : ℕ} (h : t < 16) (Φ : ℕ → sProp 𝕄) : bigSep (Finset.Ico t 16) Φ ⊢ iprop(Φ t ∗ bigSep (Finset.Ico (t + 1) 16) Φ) := by
  have e : Finset.Ico t 16 = insert t (Finset.Ico (t + 1) 16) := by ext x; simp only [Finset.mem_Ico, Finset.mem_insert]; omega
  rw [e]
  exact Entails.of_eq (BI.bigSep_insert (by simp))

/-- Before the first step. -/
def Start (c : Dev nD) : sProp 𝕄 :=
  iprop((raw c aB ∗ owns (c : Thread nD τ) xB fullShare (Aof m c) ∗ atPos ER (cell c .loc) 0 ∅ 0 ∗ reached ER (cell c .loc) 0 ∗ dutyTok ER (cell c .loc) 0 0)
    ∗ (atPos ER (cell c .bar) 0 ∅ 0 ∗ dutyTok ER (cell (pr c) .bar) 0 0 ∗ reached ER (cell (pr c) .bar) 0)
    ∗ Snd m c 0
    ∗ ((atPos ER (cell c (.rcv 0)) 0 ∅ 0 ∗ reached ER (cell c (.rcv 0)) 0 ∗ Release.readerAt ES (c, (0 : Fin 2)) 0 ∗ raw c (recvV 0))
      ∗ (atPos ER (cell c (.rcv 1)) 0 ∅ 0 ∗ reached ER (cell c (.rcv 1)) 0 ∗ Release.readerAt ES (c, (1 : Fin 2)) 0 ∗ raw c (recvV 1)))
    ∗ (Cr c 0 ∗ reached ER (cell c .cred) 0)
    ∗ sendToks c 0 ∗ credToks c 0 ∗ backToks c ∗ cred (waitFrom c 0))

/-- Before step `n + 1`: `n` of the partner's blocks have been added. -/
def Mid (c : Dev nD) (n : ℕ) : sProp 𝕄 :=
  iprop((owns (c : Thread nD τ) aB fullShare (Aof m c) ∗ owns (c : Thread nD τ) xB fullShare (Aof m c) ∗ semVal (cell c .loc) 0 ∗ semVal (cell c .bar) 0)
    ∗ Snd m c (n + 1) ∗ (RP c n ∗ RP c (n + 1)) ∗ (heard c n ∗ heard (pr c) 0 ∗ Cr c (n - 1))
    ∗ sendToks c (n + 1) ∗ credToks c n ∗ backToks c ∗ cred (waitFrom c (n + 1)))

/-- After the last step: every counter is at zero and every scratch buffer is here. -/
def End (c : Dev nD) : sProp 𝕄 :=
  iprop((raw c aB ∗ owns (c : Thread nD τ) xB fullShare (Aof m c))
    ∗ (semVal (cell c .loc) 0 ∗ semVal (cell c .bar) 0 ∗ semVal (cell c .cred) 0 ∗ (semVal (cell c (.snd 0)) 0 ∗ semVal (cell c (.snd 1)) 0)
      ∗ (semVal (cell c (.rcv 0)) 0 ∗ semVal (cell c (.rcv 1)) 0))
    ∗ ((raw c (sendV 0) ∗ raw c (sendV 1)) ∗ (raw c (recvV 0) ∗ raw c (recvV 1))))

/-- Before step `t`. -/
def stateAt (c : Dev nD) : ℕ → sProp 𝕄
  | 0 => Start m c
  | n + 1 => if n < 16 then Mid m c n else End m c

end Cert.KernelIdeal.Run

end
-- ==== Proof.IBody.lean ====
/-
  One grid point of the kernel, by where it stands: the first, the second, one in the middle, the last.
-/
module

public import proofs.«01_k».proof.Proof.IState

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : GSem nD τ sig → ℕ} {κ : Dev nD × Fin 2 → ℕ}

theorem one_word : (1#32).toInt = ((1 : ℕ) : ℤ) := rfl
theorem two_word : (2#32).toInt = ((2 : ℕ) : ℤ) := rfl

/-- What has been heard before block `b` allows its transfer. -/
theorem heard_for (d : Dev nD) {n b : ℕ} (h : b / 2 ≤ cnt n (sl b)) :
    heard d n ⊢ (iprop(Release.released ES (d, sl b) (b / 2 + 1) ∗ reached ER (cell d (.rcv (sl b))) (b / 2)) : sProp 𝕄) :=
  BIBase.Entails.trans (Q := iprop(Release.released ES (d, sl b) (cnt n (sl b) + 1) ∗ reached ER (cell d (.rcv (sl b))) (cnt n (sl b)))) (heard_at d n (sl b))
    (BI.sep_mono (Release.released_mono _ (Nat.succ_le_succ h)) (reached_mono _ h))

theorem cnt_early (b : ℕ) (h : b < 2) : b / 2 ≤ cnt 0 (sl b) := by unfold cnt sl; omega
theorem cnt_late (b : ℕ) : (b + 2) / 2 ≤ cnt (b + 1) (sl (b + 2)) := by
  unfold cnt sl; show (b + 2) / 2 ≤ (b + 1 + 1 - (b + 2) % 2) / 2; omega

/-- At the start both receive slots are given up for the partner's first two blocks. -/
theorem offer (c : Dev nD) :
    iprop(ctx m K κ ∗ ((atPos ER (cell c (.rcv 0)) 0 ∅ 0 ∗ reached ER (cell c (.rcv 0)) 0 ∗ Release.readerAt ES (c, (0 : Fin 2)) 0 ∗ raw c (recvV 0))
      ∗ (atPos ER (cell c (.rcv 1)) 0 ∅ 0 ∗ reached ER (cell c (.rcv 1)) 0 ∗ Release.readerAt ES (c, (1 : Fin 2)) 0 ∗ raw c (recvV 1))) ∗ reached ER (cell c .cred) 0)
      ⊢ (|={Set.univ}=> (RP c 0 ∗ RP c 1 ∗ heard c 0) : sProp 𝕄) := by
  have hS : ∀ s : Fin 2, (raw c (recvV s) : sProp 𝕄) = Sl (c, s) := fun _ => rfl
  iintro ⟨#Hctx, ⟨⟨Ha0, Hr0, Hd0, Hw0⟩, ⟨Ha1, Hr1, Hd1, Hw1⟩⟩, Hc⟩
  ihave #H0 := (ctx_slot (m := m) (K := K) (κ := κ) (c, 0)) $$ Hctx
  ihave #H1 := (ctx_slot (m := m) (K := K) (κ := κ) (c, 1)) $$ Hctx
  imod (Release.slot_release ES (Set.mem_univ (κ (c, 0))) (Sl_excl (c, 0)) 0) $$ [Hd0 Hw0] with ⟨Hd0, Hl0⟩
  · isplitr; · iexact H0
    isplitl [Hd0]; · iexact Hd0
    iapply (Entails.of_eq (hS 0)) $$ Hw0
  imod (Release.slot_release ES (Set.mem_univ (κ (c, 1))) (Sl_excl (c, 1)) 0) $$ [Hd1 Hw1] with ⟨Hd1, Hl1⟩
  · isplitr; · iexact H1
    isplitl [Hd1]; · iexact Hd1
    iapply (Entails.of_eq (hS 1)) $$ Hw1
  imodintro
  unfold RP heard
  isplitl [Ha0 Hd0]
  · isplitl [Ha0]; · iexact Ha0
    iexact Hd0
  isplitl [Ha1 Hd1]
  · isplitl [Ha1]; · iexact Ha1
    iexact Hd1
  isplitl [Hc]; · iexact Hc
  isplitl [Hl0 Hr0]
  · isplitl [Hl0]; · iexact Hl0
    iexact Hr0
  isplitl [Hl1]; · iexact Hl1
  iexact Hr1

/-- The first step. -/
theorem step_first (c : Dev nD) (t : Fin cfg0.N) (ht : t.val = 0) {Q : PUnit → sProp 𝕄} :
    iprop(ctx m K κ ∗ Start m c ∗ owesE c (dueFrom c 0) ∗ owns (c : Thread nD τ) (Gen.st0_0 t) fullShare (Gen.iblk m c 0 t))
      ⊢ (iprop((Mid m c 0 ∗ owesE c (dueFrom c 1) ∗ owns (c : Thread nD τ) (Gen.st0_0 t) fullShare (Gen.iblk m c 0 t) -∗ Q ⟨⟩)
        -∗ wp frame (wpE (defs₀ (F := F)) 𝒱₀ (c : Thread nD τ) none) Set.univ (Gen.bodyAt0 t) Q) : sProp 𝕄) := by
  have h1 := (cond1_iff t).2 ht
  have h2 := (cond2_iff t).2 (by omega)
  have h3 : ¬ k0_cond3 (grid0.coords t) = 1#1 := fun h => by have := (cond3_iff t).1 h; omega
  have h4 : ¬ k0_cond4 (grid0.coords t) = 1#1 := fun h => by have := (cond4_iff t).1 h; omega
  have h5 : ¬ Scalar.cmpi .ne (Scalar.extui (Scalar.cmpi .eq (BitVec.ofNat 32 (grid0.coords t 0).val) 16#32)) (0#32) = 1#1 := fun h => by have := (cond5_iff t).1 h; omega
  have hpt : pt 0 = t := by rw [← ht]; exact pt_val t
  have ho3 : k0_off3 (grid0.coords t) = ![(sl 0).val, 0, 0] := by rw [off3_eq, ht]; rfl
  have ho4 : k0_off4 (grid0.coords t) = ![(sl 0).val] := by rw [off4_eq, ht]; rfl
  have ho5 : k0_off5 (grid0.coords t) = ![(sl 0).val, 0, 0] := by rw [off5_eq, ht]; rfl
  unfold Gen.bodyAt0
  rw [Gen.cc0_body_eq_skeleton]
  unfold Gen.cc0_body_skel
  simp only [dif_pos h1, dif_pos h2, dif_neg h3, dif_neg h4, dif_neg h5, Prog.bind_op, Prog.bind_lift, Prog.pure_eq_ret, Prog.bind_ret, wp_deviceId, semSignalWord, semWaitWord, one_word]
  unfold Start
  iintro ⟨#Hctx, ⟨⟨Ha, Hx, Hlat, Hlre, Hltk⟩, ⟨Hbat, Hbtk, Hbre⟩, Hsnd, Hrcv, ⟨Hcr, #Hcre⟩, Hst, Hct, Hbk, Hcred⟩, HO, HM⟩ Hk
  ihave Hcred := (wait_first c) $$ Hcred
  icases Hcred with ⟨Hcb, Hcred⟩
  iapply (wp_fetch (m := m) (K := K) (κ := κ) c (O := dueFrom c 0) ((from_dueFrom c 0).mono (by decide))) $$ [Ha Hx Hlat Hlre Hltk HO]
  · isplitr; · iexact Hctx
    isplitl [Ha]; · iexact Ha
    isplitl [Hx]; · iexact Hx
    isplitl [Hlat]; · iexact Hlat
    isplitl [Hlre]; · iexact Hlre
    isplitl [Hltk]; · iexact Hltk
    iexact HO
  iintro ⟨Hx, Ha, Hlz, HO⟩
  imod (offer (m := m) (K := K) (κ := κ) c) $$ [Hrcv] with ⟨Hp0, Hp1, #Hh⟩
  · isplitr; · iexact Hctx
    isplitl [Hrcv]; · iexact Hrcv
    iexact Hcre
  iapply (wp_meet (m := m) (K := K) (κ := κ) c (dev1_eq c _) (O₀ := dueFrom c 0) (O := dueFrom c 1 + tallyAt (cell (pr c) (.rcv (sl 0))) (2 * 0 + 2) NS) (due_first c)
    (From.add ((from_dueFrom c 1).mono (by decide)) (From.at _ _ (by decide) (by decide)))) $$ [Hbat Hbtk Hbre Hcb HO]
  · isplitr; · iexact Hctx
    isplitl [Hbat]; · iexact Hbat
    isplitl [Hbtk]; · iexact Hbtk
    isplitl [Hbre]; · iexact Hbre
    isplitl [Hcb]; · iexact Hcb
    isplitr; · iexact Hh
    iexact HO
  iintro ⟨#Hhp, Hbz, HO⟩
  unfold Snd sendToks
  icases Hsnd with ⟨Hs0, Hs1⟩
  ihave Hst := (Ico_take (show 0 < 16 by decide) (sendTok c)) $$ Hst
  icases Hst with ⟨Ht0, Hst⟩
  ihave Hgo := (heard_for (F := F) (pr c) (cnt_early 0 (by decide))) $$ Hhp
  icases Hgo with ⟨Hg1, Hg2⟩
  iapply (wp_multiply (m := m) (K := K) (κ := κ) c 0 (by decide) hpt ho3 ho5 ho4 (dev2_eq c _) (O₀ := dueFrom c 1 + tallyAt (cell (pr c) (.rcv (sl 0))) (2 * 0 + 2) NS) (O := dueFrom c 1) rfl) $$ [Ha HM Hs0 Ht0 Hg1 Hg2 HO]
  · isplitr; · iexact Hctx
    isplitl [Ha]; · iexact Ha
    isplitl [HM]; · iexact HM
    isplitl [Hs0]; · iexact Hs0
    isplitl [Ht0]; · iexact Ht0
    isplitl [Hg1]; · iexact Hg1
    isplitl [Hg2]; · iexact Hg2
    iexact HO
  iintro ⟨Ha, HM, Hs0, HO⟩
  rw [wp_ret]
  imodintro
  iapply Hk
  unfold Mid Snd sendToks
  isplitr [HO HM]
  · isplitl [Ha Hx Hlz Hbz]
    · isplitl [Ha]; · iexact Ha
      isplitl [Hx]; · iexact Hx
      isplitl [Hlz]; · iexact Hlz
      iexact Hbz
    isplitl [Hs0 Hs1]
    · isplitl [Hs0]; · iexact Hs0
      iexact Hs1
    isplitl [Hp0 Hp1]
    · isplitl [Hp0]; · iexact Hp0
      iexact Hp1
    isplitl [Hcr]
    · isplitr; · iexact Hh
      isplitr; · iexact Hhp
      iexact Hcr
    isplitl [Hst]; · iexact Hst
    isplitl [Hct]; · iexact Hct
    isplitl [Hbk]; · iexact Hbk
    iexact Hcred
  isplitl [HO]; · iexact HO
  iexact HM

/-- The second step. -/
theorem step_second (c : Dev nD) (t : Fin cfg0.N) (ht : t.val = 1) {Q : PUnit → sProp 𝕄} :
    iprop(ctx m K κ ∗ Mid m c (0) ∗ owesE c (dueFrom c (0 + 1)) ∗ owns (c : Thread nD τ) (Gen.st0_0 t) fullShare (Gen.iblk m c 0 t) ∗ raw c (Gen.st0_1 t))
      ⊢ (iprop((Mid m c 1 ∗ owesE c (dueFrom c (2)) ∗ owns (c : Thread nD τ) (Gen.st0_0 t) fullShare (Gen.iblk m c 0 t)
            ∗ owns (c : Thread nD τ) (Gen.st0_1 t) fullShare (Gen.k0_pay2 (part m c (0)) (part m (pr c) (0))) -∗ Q ⟨⟩)
        -∗ wp frame (wpE (defs₀ (F := F)) 𝒱₀ (c : Thread nD τ) none) Set.univ (Gen.bodyAt0 t) Q) : sProp 𝕄) := by
  have h1 : ¬ k0_cond1 (grid0.coords t) = 1#1 := fun h => by have := (cond1_iff t).1 h; omega
  have h2 : k0_cond2 (grid0.coords t) = 1#1 := (cond2_iff t).2 (by omega)
  have h3 : ¬ k0_cond3 (grid0.coords t) = 1#1 := fun h => by have := (cond3_iff t).1 h; omega
  have h4 := (cond4_iff t).2 (by omega)
  have h5 : ¬ Scalar.cmpi .ne (Scalar.extui (Scalar.cmpi .eq (BitVec.ofNat 32 (grid0.coords t 0).val) 16#32)) (0#32) = 1#1 := fun h => by have := (cond5_iff t).1 h; omega
  have hpt : pt (0 + 1) = t := by rw [← pt_val t, ht]
  have ho3 : k0_off3 (grid0.coords t) = ![(sl (0 + 1)).val, 0, 0] := by rw [off3_eq, ht]; rfl
  have ho4 : k0_off4 (grid0.coords t) = ![(sl (0 + 1)).val] := by rw [off4_eq, ht]; rfl
  have ho5 : k0_off5 (grid0.coords t) = ![(sl (0 + 1)).val, 0, 0] := by rw [off5_eq, ht]; rfl
  have ho6 : k0_off6 (grid0.coords t) = ![(sl (0)).val] := by rw [off6_eq t (by omega), ht]; rfl
  have ho7 : k0_off7 (grid0.coords t) = ![(sl (0)).val, 0, 0] := by rw [off7_eq t (by omega), ht]; rfl
  have ho8 : k0_off8 (grid0.coords t) = ![(sl (0)).val, 0, 0] := by rw [off8_eq t (by omega), ht]; rfl
  unfold Gen.bodyAt0
  rw [Gen.cc0_body_eq_skeleton]
  unfold Gen.cc0_body_skel
  rw [Gen.k0_part1_eq_skeleton]
  unfold Gen.k0_part1_skel
  simp only [dif_neg h1, dif_pos h2, dif_neg h3, dif_pos h4, dif_neg h5, Prog.bind_op, Prog.bind_lift, Prog.pure_eq_ret, Prog.bind_ret, wp_deviceId, semSignalWord, semWaitWord, one_word, two_word]
  unfold Mid
  iintro ⟨#Hctx, ⟨⟨Ha, Hx, Hlz, Hbz⟩, Hsnd, ⟨Hp0, Hp1⟩, ⟨#Hh, #Hhp, Hcr⟩, Hst, Hct, Hbk, Hcred⟩, HO, HM, HM3⟩ Hk
  ihave Hcred := (wait_second c) $$ Hcred
  icases Hcred with ⟨Hcv, Hcred⟩
  unfold Snd
  icases Hsnd with ⟨Hi0, Hf⟩
  unfold sendToks
  ihave Hst := (Ico_take (show 0 + 1 < 16 by omega) (sendTok c)) $$ Hst
  icases Hst with ⟨Ht0, Hst⟩
  ihave Hgo := (heard_for (F := F) (pr c) (cnt_early 1 (by decide))) $$ Hhp
  icases Hgo with ⟨Hg1, Hg2⟩
  iapply (wp_multiply (m := m) (K := K) (κ := κ) c (0 + 1) (by omega) hpt ho3 ho5 ho4 (dev2_eq c _) (due_mid c (n := 0) (by decide))) $$ [Ha HM Hf Ht0 Hg1 Hg2 HO]
  · isplitr; · iexact Hctx
    isplitl [Ha]; · iexact Ha
    isplitl [HM]; · iexact HM
    isplitl [Hf]; · iexact Hf
    isplitl [Ht0]; · iexact Ht0
    isplitl [Hg1]; · iexact Hg1
    isplitl [Hg2]; · iexact Hg2
    iexact HO
  iintro ⟨Ha, HM, Hi1, HO⟩
  iapply (wp_receive (m := m) (K := K) (κ := κ) c (0) (by omega) ho7 ho8 ho6 (O := dueFrom c (0 + 2) + tallyAt (cell (pr c) .cred) (cIx (0 + 1)) 1) (From.add ((from_dueFrom c (0 + 2)).mono (by decide)) (From.at _ _ (by decide) (by decide)))) $$ [Hi0 Hp0 Hcv HM3 HO]
  · isplitr; · iexact Hctx
    isplitl [Hi0]; · iexact Hi0
    isplitl [Hp0]; · iexact Hp0
    isplitr; · iexact Hh
    isplitl [Hcv]; · iexact Hcv
    isplitl [HM3]; · iexact HM3
    iexact HO
  iintro ⟨Hi0, Hp2, #Hh2, HM3, HO⟩
  unfold credToks
  ihave Hct := (Ico_take (show 0 < 16 by omega) (fun d => dutyTok ER (cell (pr c) .cred) 0 d)) $$ Hct
  icases Hct with ⟨Htc, Hct⟩
  ihave #Hcre := (heard_cred (F := F) (pr c) 0) $$ Hhp
  iapply (wp_pay (m := m) (K := K) (κ := κ) c (0) (by omega) (dev3_eq c _) (O₀ := dueFrom c (0 + 2) + tallyAt (cell (pr c) .cred) (cIx (0 + 1)) 1) (O := dueFrom c (0 + 2)) rfl) $$ [Htc HO]
  · isplitr; · iexact Hctx
    isplitl [Htc]; · iexact Htc
    isplitr; · iexact Hcre
    isplitr; · iexact Hh2
    iexact HO
  iintro HO
  rw [wp_ret]
  imodintro
  iapply Hk
  isplitl [Ha Hx Hlz Hbz Hi0 Hi1 Hp1 Hp2 Hcr Hst Hct Hbk Hcred]
  · isplitl [Ha Hx Hlz Hbz]
    · isplitl [Ha]; · iexact Ha
      isplitl [Hx]; · iexact Hx
      isplitl [Hlz]; · iexact Hlz
      iexact Hbz
    isplitl [Hi0 Hi1]
    · isplitl [Hi0]; · iexact Hi0
      iexact Hi1
    isplitl [Hp1 Hp2]
    · isplitl [Hp1]; · iexact Hp1
      iexact Hp2
    isplitl [Hcr]
    · isplitr; · iexact Hh2
      isplitr; · iexact Hhp
      iexact Hcr
    isplitl [Hst]; · iexact Hst
    isplitl [Hct]; · iexact Hct
    isplitl [Hbk]; · iexact Hbk
    iexact Hcred
  isplitl [HO]; · iexact HO
  isplitl [HM]; · iexact HM
  iexact HM3

/-- A step in the middle. -/
theorem step_mid (c : Dev nD) (t : Fin cfg0.N) (n : ℕ) (hn : n < 14) (ht : t.val = n + 2) {Q : PUnit → sProp 𝕄} :
    iprop(ctx m K κ ∗ Mid m c (n + 1) ∗ owesE c (dueFrom c (n + 2)) ∗ owns (c : Thread nD τ) (Gen.st0_0 t) fullShare (Gen.iblk m c 0 t) ∗ raw c (Gen.st0_1 t))
      ⊢ (iprop((Mid m c (n + 2) ∗ owesE c (dueFrom c (n + 3)) ∗ owns (c : Thread nD τ) (Gen.st0_0 t) fullShare (Gen.iblk m c 0 t)
            ∗ owns (c : Thread nD τ) (Gen.st0_1 t) fullShare (Gen.k0_pay2 (part m c (n + 1)) (part m (pr c) (n + 1))) -∗ Q ⟨⟩)
        -∗ wp frame (wpE (defs₀ (F := F)) 𝒱₀ (c : Thread nD τ) none) Set.univ (Gen.bodyAt0 t) Q) : sProp 𝕄) := by
  have h1 : ¬ k0_cond1 (grid0.coords t) = 1#1 := fun h => by have := (cond1_iff t).1 h; omega
  have h2 : k0_cond2 (grid0.coords t) = 1#1 := (cond2_iff t).2 (by omega)
  have h3 : k0_cond3 (grid0.coords t) = 1#1 := (cond3_iff t).2 (by omega)
  have h4 := (cond4_iff t).2 (by omega)
  have h5 : ¬ Scalar.cmpi .ne (Scalar.extui (Scalar.cmpi .eq (BitVec.ofNat 32 (grid0.coords t 0).val) 16#32)) (0#32) = 1#1 := fun h => by have := (cond5_iff t).1 h; omega
  have hpt : pt (n + 2) = t := by rw [← pt_val t, ht]
  have ho1 : k0_off1 (grid0.coords t) = ![(sl n).val] := by rw [off1_eq, ht]; exact congrArg (fun x => ![x]) (Nat.add_mod_right n 2)
  have ho3 : k0_off3 (grid0.coords t) = ![(sl (n + 2)).val, 0, 0] := by rw [off3_eq, ht]; rfl
  have ho4 : k0_off4 (grid0.coords t) = ![(sl (n + 2)).val] := by rw [off4_eq, ht]; rfl
  have ho5 : k0_off5 (grid0.coords t) = ![(sl (n + 2)).val, 0, 0] := by rw [off5_eq, ht]; rfl
  have ho6 : k0_off6 (grid0.coords t) = ![(sl (n + 1)).val] := by rw [off6_eq t (by omega), ht]; rfl
  have ho7 : k0_off7 (grid0.coords t) = ![(sl (n + 1)).val, 0, 0] := by rw [off7_eq t (by omega), ht]; rfl
  have ho8 : k0_off8 (grid0.coords t) = ![(sl (n + 1)).val, 0, 0] := by rw [off8_eq t (by omega), ht]; rfl
  unfold Gen.bodyAt0
  rw [Gen.cc0_body_eq_skeleton]
  unfold Gen.cc0_body_skel
  rw [Gen.k0_part1_eq_skeleton]
  unfold Gen.k0_part1_skel
  simp only [dif_neg h1, dif_pos h2, dif_pos h3, dif_pos h4, dif_neg h5, Prog.bind_op, Prog.bind_lift, Prog.pure_eq_ret, Prog.bind_ret, wp_deviceId, semSignalWord, semWaitWord, one_word, two_word]
  unfold Mid
  iintro ⟨#Hctx, ⟨⟨Ha, Hx, Hlz, Hbz⟩, Hsnd, ⟨Hp0, Hp1⟩, ⟨#Hh, #Hhp, Hcr⟩, Hst, Hct, Hbk, Hcred⟩, HO, HM, HM3⟩ Hk
  ihave Hcred := (wait_mid c hn) $$ Hcred
  icases Hcred with ⟨Hcv, Hcc, Hcred⟩
  unfold Snd
  icases Hsnd with ⟨Hi, Hi0⟩
  iapply (wp_reclaim (m := m) (K := K) (κ := κ) c n (by omega) ho1 ((from_dueFrom c (n + 2)).mono (by omega))) $$ [Hi HO]
  · isplitr; · iexact Hctx
    isplitl [Hi]; · iexact Hi
    iexact HO
  iintro ⟨Hf, HO⟩
  iapply (wp_credit (m := m) (K := K) (κ := κ) c n hn ((from_dueFrom c (n + 2)).mono (by omega))) $$ [Hcr Hcc HO]
  · isplitr; · iexact Hctx
    isplitl [Hcr]; · iexact Hcr
    isplitl [Hcc]; · iexact Hcc
    iexact HO
  iintro ⟨Hcr, #Hhn, HO⟩
  unfold sendToks
  ihave Hst := (Ico_take (show n + 2 < 16 by omega) (sendTok c)) $$ Hst
  icases Hst with ⟨Ht0, Hst⟩
  ihave Hgo := (heard_for (F := F) (pr c) (cnt_late n)) $$ Hhn
  icases Hgo with ⟨Hg1, Hg2⟩
  iapply (wp_multiply (m := m) (K := K) (κ := κ) c (n + 2) (by omega) hpt ho3 ho5 ho4 (dev2_eq c _) (due_mid c (n := n + 1) (by omega))) $$ [Ha HM Hf Ht0 Hg1 Hg2 HO]
  · isplitr; · iexact Hctx
    isplitl [Ha]; · iexact Ha
    isplitl [HM]; · iexact HM
    isplitl [Hf]; · iexact Hf
    isplitl [Ht0]; · iexact Ht0
    isplitl [Hg1]; · iexact Hg1
    isplitl [Hg2]; · iexact Hg2
    iexact HO
  iintro ⟨Ha, HM, Hi1, HO⟩
  iapply (wp_receive (m := m) (K := K) (κ := κ) c (n + 1) (by omega) ho7 ho8 ho6 (O := dueFrom c (n + 3) + tallyAt (cell (pr c) .cred) (cIx (n + 1 + 1)) 1) (From.add ((from_dueFrom c (n + 3)).mono (by omega)) (From.at _ _ (by unfold cIx; split <;> omega) (by unfold cIx; split <;> omega)))) $$ [Hi0 Hp0 Hcv HM3 HO]
  · isplitr; · iexact Hctx
    isplitl [Hi0]; · iexact Hi0
    isplitl [Hp0]; · iexact Hp0
    isplitr; · iexact Hh
    isplitl [Hcv]; · iexact Hcv
    isplitl [HM3]; · iexact HM3
    iexact HO
  iintro ⟨Hi0, Hp2, #Hh2, HM3, HO⟩
  unfold credToks
  ihave Hct := (Ico_take (show n + 1 < 16 by omega) (fun d => dutyTok ER (cell (pr c) .cred) 0 d)) $$ Hct
  icases Hct with ⟨Htc, Hct⟩
  ihave #Hcre := (heard_cred (F := F) (pr c) 0) $$ Hhp
  iapply (wp_pay (m := m) (K := K) (κ := κ) c (n + 1) (by omega) (dev3_eq c _) (O₀ := dueFrom c (n + 3) + tallyAt (cell (pr c) .cred) (cIx (n + 1 + 1)) 1) (O := dueFrom c (n + 3)) rfl) $$ [Htc HO]
  · isplitr; · iexact Hctx
    isplitl [Htc]; · iexact Htc
    isplitr; · iexact Hcre
    isplitr; · iexact Hh2
    iexact HO
  iintro HO
  rw [wp_ret]
  imodintro
  iapply Hk
  isplitl [Ha Hx Hlz Hbz Hi0 Hi1 Hp1 Hp2 Hcr Hst Hct Hbk Hcred]
  · isplitl [Ha Hx Hlz Hbz]
    · isplitl [Ha]; · iexact Ha
      isplitl [Hx]; · iexact Hx
      isplitl [Hlz]; · iexact Hlz
      iexact Hbz
    isplitl [Hi0 Hi1]
    · isplitl [Hi0]; · iexact Hi0
      iexact Hi1
    isplitl [Hp1 Hp2]
    · isplitl [Hp1]; · iexact Hp1
      iexact Hp2
    isplitl [Hcr]
    · isplitr; · iexact Hh2
      isplitr; · iexact Hhp
      iexact Hcr
    isplitl [Hst]; · iexact Hst
    isplitl [Hct]; · iexact Hct
    isplitl [Hbk]; · iexact Hbk
    iexact Hcred
  isplitl [HO]; · iexact HO
  isplitl [HM]; · iexact HM
  iexact HM3

/-- Both send cells are finished: their counters are closed, their slots are here. -/
theorem finish_send (c : Dev nD) :
    iprop(ctx m K κ ∗ SF c 16 ∗ SF c 17) ⊢ (|={Set.univ}=> ((semVal (cell c (.snd 0)) 0 ∗ semVal (cell c (.snd 1)) 0) ∗ raw c (sendV 0) ∗ raw c (sendV 1)) : sProp 𝕄) := by
  unfold SF
  iintro ⟨#Hctx, ⟨Hw0, Ha0, -⟩, ⟨Hw1, Ha1, -⟩⟩
  imod (close (m := m) (K (cell c (.snd 0))) c (.snd 0) (R := 16 / 2) rfl) $$ [Ha0] with Hz0
  · isplitr; · iapply (ctx_cell (m := m) (K := K) (κ := κ) c (.snd 0)); iexact Hctx
    iexact Ha0
  imod (close (m := m) (K (cell c (.snd 1))) c (.snd 1) (R := 17 / 2) rfl) $$ [Ha1] with Hz1
  · isplitr; · iapply (ctx_cell (m := m) (K := K) (κ := κ) c (.snd 1)); iexact Hctx
    iexact Ha1
  imodintro
  isplitl [Hz0 Hz1]
  · isplitl [Hz0]; · iexact Hz0
    iexact Hz1
  isplitl [Hw0]; · iexact Hw0
  iexact Hw1

/-- Both receive cells are finished: their counters are closed, and the slots, given up after the last reads, are taken back. -/
theorem finish_recv (c : Dev nD) :
    iprop(ctx m K κ ∗ RP c 16 ∗ RP c 17 ∗ heard c 16 ∗ backToks c) ⊢ (|={Set.univ}=> ((semVal (cell c (.rcv 0)) 0 ∗ semVal (cell c (.rcv 1)) 0) ∗ raw c (recvV 0) ∗ raw c (recvV 1)) : sProp 𝕄) := by
  have hS : ∀ s : Fin 2, (Sl (c, s) : sProp 𝕄) = raw c (recvV s) := fun _ => rfl
  have e : ∀ s : Fin 2, cnt 16 s + 1 = 9 := by decide
  unfold RP backToks heard
  rw [e 0, e 1]
  iintro ⟨#Hctx, ⟨Ha0, -⟩, ⟨Ha1, -⟩, ⟨-, ⟨Hr0, -⟩, ⟨Hr1, -⟩⟩, ⟨Hk0, Hk1⟩⟩
  ihave #Hi0 := (ctx_slot (m := m) (K := K) (κ := κ) (c, 0)) $$ Hctx
  ihave #Hi1 := (ctx_slot (m := m) (K := K) (κ := κ) (c, 1)) $$ Hctx
  imod (close (m := m) (K (cell c (.rcv 0))) c (.rcv 0) (R := 16 / 2) rfl) $$ [Ha0] with Hz0
  · isplitr; · iapply (ctx_cell (m := m) (K := K) (κ := κ) c (.rcv 0)); iexact Hctx
    iexact Ha0
  imod (close (m := m) (K (cell c (.rcv 1))) c (.rcv 1) (R := 17 / 2) rfl) $$ [Ha1] with Hz1
  · isplitr; · iapply (ctx_cell (m := m) (K := K) (κ := κ) c (.rcv 1)); iexact Hctx
    iexact Ha1
  imod (Release.slot_take ES (Set.mem_univ (κ (c, 0))) 9) $$ [Hr0 Hk0] with Hw0
  · isplitr; · iexact Hi0
    isplitl [Hr0]; · iexact Hr0
    iexact Hk0
  imod (Release.slot_take ES (Set.mem_univ (κ (c, 1))) 9) $$ [Hr1 Hk1] with Hw1
  · isplitr; · iexact Hi1
    isplitl [Hr1]; · iexact Hr1
    iexact Hk1
  imodintro
  isplitl [Hz0 Hz1]
  · isplitl [Hz0]; · iexact Hz0
    iexact Hz1
  isplitl [Hw0]; · iapply (Entails.of_eq (hS 0)) $$ Hw0
  iapply (Entails.of_eq (hS 1)) $$ Hw1

/-- The last step: the last block is added and every counter is drained. -/
theorem step_last (c : Dev nD) (t : Fin cfg0.N) (ht : t.val = 16) {Q : PUnit → sProp 𝕄} :
    iprop(ctx m K κ ∗ Mid m c (15) ∗ owesE c (dueFrom c (15 + 1)) ∗ owns (c : Thread nD τ) (Gen.st0_0 t) fullShare (Gen.iblk m c 0 t) ∗ raw c (Gen.st0_1 t))
      ⊢ (iprop((End m c ∗ owesE c (dueFrom c (17)) ∗ owns (c : Thread nD τ) (Gen.st0_0 t) fullShare (Gen.iblk m c 0 t)
            ∗ owns (c : Thread nD τ) (Gen.st0_1 t) fullShare (Gen.k0_pay2 (part m c (15)) (part m (pr c) (15))) -∗ Q ⟨⟩)
        -∗ wp frame (wpE (defs₀ (F := F)) 𝒱₀ (c : Thread nD τ) none) Set.univ (Gen.bodyAt0 t) Q) : sProp 𝕄) := by
  have h1 : ¬ k0_cond1 (grid0.coords t) = 1#1 := fun h => by have := (cond1_iff t).1 h; omega
  have h2 : ¬ k0_cond2 (grid0.coords t) = 1#1 := fun h => by have := (cond2_iff t).1 h; omega
  have h3 : True := trivial
  have h4 := (cond4_iff t).2 (by omega)
  have h5 : Scalar.cmpi .ne (Scalar.extui (Scalar.cmpi .eq (BitVec.ofNat 32 (grid0.coords t 0).val) 16#32)) (0#32) = 1#1 := (cond5_iff t).2 (by omega)
  have ho6 : k0_off6 (grid0.coords t) = ![(sl (15)).val] := by rw [off6_eq t (by omega), ht]; rfl
  have ho7 : k0_off7 (grid0.coords t) = ![(sl (15)).val, 0, 0] := by rw [off7_eq t (by omega), ht]; rfl
  have ho8 : k0_off8 (grid0.coords t) = ![(sl (15)).val, 0, 0] := by rw [off8_eq t (by omega), ht]; rfl
  unfold Gen.bodyAt0
  rw [Gen.cc0_body_eq_skeleton]
  unfold Gen.cc0_body_skel
  rw [Gen.k0_part1_eq_skeleton]
  unfold Gen.k0_part1_skel
  simp only [dif_neg h1, dif_neg h2,  dif_pos h4, dif_pos h5, Prog.bind_op, Prog.bind_lift, Prog.pure_eq_ret, Prog.bind_ret, wp_deviceId, semSignalWord, semWaitWord, one_word, two_word]
  unfold Mid
  iintro ⟨#Hctx, ⟨⟨Ha, Hx, Hlz, Hbz⟩, Hsnd, ⟨Hp0, Hp1⟩, ⟨#Hh, #Hhp, Hcr⟩, Hst, Hct, Hbk, Hcred⟩, HO, HM, HM3⟩ Hk
  ihave Hcred := (wait_last c) $$ Hcred
  icases Hcred with ⟨Hcv, Hcc⟩
  unfold Snd
  icases Hsnd with ⟨Hi, Hi0⟩
  rw [due_last]
  iapply (wp_receive (m := m) (K := K) (κ := κ) c (15) (by omega) ho7 ho8 ho6 (O := 0 + tallyAt (cell (pr c) .cred) (cIx (15 + 1)) 1) (From.add (From.zero _) (From.at _ _ (by decide) (by decide)))) $$ [Hi0 Hp0 Hcv HM3 HO]
  · isplitr; · iexact Hctx
    isplitl [Hi0]; · iexact Hi0
    isplitl [Hp0]; · iexact Hp0
    isplitr; · iexact Hh
    isplitl [Hcv]; · iexact Hcv
    isplitl [HM3]; · iexact HM3
    iexact HO
  iintro ⟨Hi0, Hp2, #Hh2, HM3, HO⟩
  unfold credToks
  ihave Hct := (Ico_take (show 15 < 16 by omega) (fun d => dutyTok ER (cell (pr c) .cred) 0 d)) $$ Hct
  icases Hct with ⟨Htc, Hct⟩
  ihave #Hcre := (heard_cred (F := F) (pr c) 0) $$ Hhp
  iapply (wp_pay (m := m) (K := K) (κ := κ) c (15) (by omega) (dev3_eq c _) (O₀ := 0 + tallyAt (cell (pr c) .cred) (cIx (15 + 1)) 1) (O := 0) rfl) $$ [Htc HO]
  · isplitr; · iexact Hctx
    isplitl [Htc]; · iexact Htc
    isplitr; · iexact Hcre
    isplitr; · iexact Hh2
    iexact HO
  iintro HO
  iapply (wp_reclaim (m := m) (K := K) (κ := κ) c 14 (by omega) rfl (From.zero 1)) $$ [Hi HO]
  · isplitr; · iexact Hctx
    isplitl [Hi]; · iexact Hi
    iexact HO
  iintro ⟨Hf0, HO⟩
  iapply (wp_reclaim (m := m) (K := K) (κ := κ) c 15 (by omega) rfl (From.zero 1)) $$ [Hi0 HO]
  · isplitr; · iexact Hctx
    isplitl [Hi0]; · iexact Hi0
    iexact HO
  iintro ⟨Hf1, HO⟩
  iapply (wp_credit_last (m := m) (K := K) (κ := κ) c) $$ [Hcr Hcc HO]
  · isplitr; · iexact Hctx
    isplitl [Hcr]; · iexact Hcr
    isplitl [Hcc]; · iexact Hcc
    iexact HO
  iintro ⟨Hcz, HO⟩
  imod (finish_send (m := m) (K := K) (κ := κ) c) $$ [Hf0 Hf1] with ⟨⟨Hsz0, Hsz1⟩, Hsw0, Hsw1⟩
  · isplitr; · iexact Hctx
    isplitl [Hf0]; · iexact Hf0
    iexact Hf1
  imod (finish_recv (m := m) (K := K) (κ := κ) c) $$ [Hp1 Hp2 Hbk] with ⟨⟨Hrz0, Hrz1⟩, Hrw0, Hrw1⟩
  · isplitr; · iexact Hctx
    isplitl [Hp1]; · iexact Hp1
    isplitl [Hp2]; · iexact Hp2
    isplitr; · iexact Hh2
    iexact Hbk
  rw [wp_ret]
  imodintro
  iapply Hk
  rw [dueFrom_end]
  isplitl [Ha Hx Hlz Hbz Hcz Hsz0 Hsz1 Hrz0 Hrz1 Hsw0 Hsw1 Hrw0 Hrw1]
  · unfold End
    isplitl [Ha Hx]
    · isplitl [Ha]; · iapply (raw_of_owns c aB (Aof m c)) $$ Ha
      iexact Hx
    isplitl [Hlz Hbz Hcz Hsz0 Hsz1 Hrz0 Hrz1]
    · isplitl [Hlz]; · iexact Hlz
      isplitl [Hbz]; · iexact Hbz
      isplitl [Hcz]; · iexact Hcz
      isplitl [Hsz0 Hsz1]
      · isplitl [Hsz0]; · iexact Hsz0
        iexact Hsz1
      isplitl [Hrz0]; · iexact Hrz0
      iexact Hrz1
    isplitl [Hsw0 Hsw1]
    · isplitl [Hsw0]; · iexact Hsw0
      iexact Hsw1
    isplitl [Hrw0]; · iexact Hrw0
    iexact Hrw1
  isplitl [HO]; · iexact HO
  isplitl [HM]; · iexact HM
  iexact HM3

end Cert.KernelIdeal.Run

end
-- ==== Proof.IDat.lean ====
/-
  The proof data of the kernel's pipeline: what its windows hold at each point, the state of the
  protocol between the points, and the body obligation, read off the steps of IBody.lean.
-/
module

public import proofs.«01_k».proof.Proof.IBody

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ)

/-- Column block `b` of device `c`'s result: its own partial product and its partner's, summed. -/
def outBlk (c : Dev nD) (b : ℕ) : Vec F S4096x256 .f32 := Gen.k0_pay2 (part m c b) (part m (pr c) b)

/-- The proof data: the left window keeps the block it fetched, the right one holds the block before;
    the invariant carries the records every step consults and the state of the protocol. -/
def dat (c : Dev nD) : Dat τ (Elt F) ℕ ℕ UU ℕ cfg0 c where
  A w := Gen.V m c (Pipeline.arrRef spec0 w)
  after := fun | 0 => fun t => Gen.iblk m c 0 t | 1 => fun t => outBlk m c (t.val - 1) | ⟨_ + 2, h⟩ => absurd h (Nat.not_lt.2 (Nat.le_add_left _ _))
  Φ t := iprop((∃ K κ, ctx m K κ) ∗ stateAt m c t.val ∗ ∃ r, prngReg c r)
  q _ := fullShare
  owed t := dueFrom c t.val

theorem dat_castSucc (c : Dev nD) (t : Fin cfg0.N) :
    (dat m c).Φ t.castSucc = iprop((∃ K κ, ctx m K κ) ∗ stateAt m c t.val ∗ ∃ r, prngReg c r) := rfl
theorem dat_succ (c : Dev nD) (t : Fin cfg0.N) :
    (dat m c).Φ t.succ = iprop((∃ K κ, ctx m K κ) ∗ stateAt m c (t.val + 1) ∗ ∃ r, prngReg c r) := rfl

theorem owesAt_intro (c : Dev nD) (t : Fin (cfg0.N + 1)) {n : ℕ} (h : t.val = n) : owesE c (dueFrom c n) ⊢ ((dat m c).owesAt 0 t : sProp 𝕄) := by
  subst h
  unfold owesE Dat.owesAt Pipeline.owesWithin Dat.bound
  iintro ⟨%W, H⟩
  iexists W
  isplitr; · ipureintro; exact fun _ _ => Or.inl trivial
  iexact H
theorem owesAt_elim (c : Dev nD) (t : Fin (cfg0.N + 1)) {n : ℕ} (h : t.val = n) : ((dat m c).owesAt 0 t : sProp 𝕄) ⊢ owesE c (dueFrom c n) := by
  subst h
  unfold owesE Dat.owesAt Pipeline.owesWithin
  iintro ⟨%W, -, H⟩
  iexists W
  iexact H

/-- The left window's buffer holds its block at every point. -/
theorem before_left (c : Dev nD) (t : Fin cfg0.N) (d) : (dat m c).before 0 t d = Gen.iblk m c 0 t :=
  ((dat m c).before_in_eq_fetched 0 rfl (fun _ => rfl) (fun _ _ _ => rfl) (fun _ => rfl) t d).trans rfl

theorem idle_iff (t : Fin cfg0.N) : (cfg0.idle 1 (cfg0.grid.coords t) = true) ↔ t.val = 0 := by
  revert t; decide
theorem flush_first (t : Fin cfg0.N) : t.val = 0 → (cfg0.win 1).flush t = false := by
  revert t; decide

/-- What the right window's buffer is left with at a point that stores it. -/
theorem leave_right (c : Dev nD) (t : Fin cfg0.N) (h : t.val ≠ 0) :
    (match cfg0.idle 1 (cfg0.grid.coords t) with
      | true =>
        match (cfg0.win 1).flush t with
        | false => iprop(∃ d, owns (c : Thread nD τ) ((cfg0.win 1).stage (cfg0.slots t 1)) fullShare ((dat m c).before 1 t d))
        | true => owns (c : Thread nD τ) ((cfg0.win 1).stage (cfg0.slots t 1)) fullShare ((dat m c).after 1 t)
      | false => owns (c : Thread nD τ) ((cfg0.win 1).stage (cfg0.slots t 1)) fullShare ((dat m c).after 1 t) : sProp 𝕄)
      = owns (c : Thread nD τ) (Gen.st0_1 t) fullShare (outBlk m c (t.val - 1)) := by
  have e : cfg0.idle 1 (cfg0.grid.coords t) = false := by
    cases hi : cfg0.idle 1 (cfg0.grid.coords t) with
    | false => rfl
    | true => exact absurd ((idle_iff t).1 hi) h
  rw [e]; rfl
theorem leave_right_first (c : Dev nD) (t : Fin cfg0.N) (h : t.val = 0) :
    (match cfg0.idle 1 (cfg0.grid.coords t) with
      | true =>
        match (cfg0.win 1).flush t with
        | false => iprop(∃ d, owns (c : Thread nD τ) ((cfg0.win 1).stage (cfg0.slots t 1)) fullShare ((dat m c).before 1 t d))
        | true => owns (c : Thread nD τ) ((cfg0.win 1).stage (cfg0.slots t 1)) fullShare ((dat m c).after 1 t)
      | false => owns (c : Thread nD τ) ((cfg0.win 1).stage (cfg0.slots t 1)) fullShare ((dat m c).after 1 t) : sProp 𝕄)
      = iprop(∃ d, owns (c : Thread nD τ) ((cfg0.win 1).stage (cfg0.slots t 1)) fullShare ((dat m c).before 1 t d)) := by
  rw [(idle_iff t).2 h, flush_first t h]

/-- One step of the kernel in the form the loop asks for: from the state before the point to the state
    after it, the left block kept, the right block stored unless the point is the first. -/
theorem step_any (c : Dev nD) (t : Fin cfg0.N) (h : t.val ≠ 0) (K κ) {Q : PUnit → sProp 𝕄} :
    iprop(ctx m K κ ∗ stateAt m c t.val ∗ owesE c (dueFrom c t.val) ∗ owns (c : Thread nD τ) (Gen.st0_0 t) fullShare (Gen.iblk m c 0 t) ∗ raw c (Gen.st0_1 t))
      ⊢ (iprop((stateAt m c (t.val + 1) ∗ owesE c (dueFrom c (t.val + 1)) ∗ owns (c : Thread nD τ) (Gen.st0_0 t) fullShare (Gen.iblk m c 0 t)
            ∗ owns (c : Thread nD τ) (Gen.st0_1 t) fullShare (outBlk m c (t.val - 1)) -∗ Q ⟨⟩)
        -∗ wp frame (wpE (defs₀ (F := F)) 𝒱₀ (c : Thread nD τ) none) Set.univ (Gen.bodyAt0 t) Q) : sProp 𝕄) := by
  have hlt : t.val < 17 := by have h1 := t.isLt; have h2 : cfg0.N = 17 := Gen.N_0; omega
  obtain ⟨n, hn⟩ : ∃ n, t.val = n + 1 := ⟨t.val - 1, by omega⟩
  have mid : ∀ k, k < 16 → stateAt m c (k + 1) = Mid m c k := fun k hk => if_pos hk
  have fin : ∀ k, ¬ k < 16 → stateAt m c (k + 1) = End m c := fun k hk => if_neg hk
  rcases Nat.lt_trichotomy n 15 with hlo | he | hhi
  · cases n with
    | zero =>
      rw [hn, mid 0 (by omega), mid 1 (by omega)]
      exact step_second c t hn
    | succ n =>
      rw [hn, mid (n + 1) (by omega), mid (n + 2) (by omega)]
      exact step_mid c t n (by omega) hn
  · subst he
    rw [hn, mid 15 (by omega), fin (15 + 1) (by omega)]
    exact step_last c t hn
  · omega

/-- The body obligation. -/
theorem body (c : Dev nD) : BodyObligation (dat m c) (defs₀ (F := F)) 𝒱₀ 0 Set.univ := fun t => by
  rw [Gen.bigSep_W0, Gen.bigSep_W0, dat_castSucc, dat_succ]
  by_cases h : t.val = 0
  · iintro ⟨⟨⟨%K, %κ, #Hc⟩, Hs, Hp⟩, HO, ⟨%d, H0⟩, H1⟩
    ihave HO' := (owesAt_elim m c t.castSucc (n := 0) h) $$ HO
    ihave H0' := (Entails.of_eq (congrArg (fun X => (owns (c : Thread nD τ) (Gen.st0_0 t) fullShare X : sProp 𝕄)) (before_left m c t d))) $$ H0
    ihave Hs' := (Entails.of_eq (show stateAt m c t.val = Start m c from by rw [h]; rfl)) $$ Hs
    iapply (step_first c t h) $$ [Hs' HO' H0']
    · isplitr; · iexact Hc
      isplitl [Hs']; · iexact Hs'
      isplitl [HO']; · iexact HO'
      iexact H0'
    iintro ⟨Hs, HO, H0⟩
    isplitl [Hs Hp]
    · isplitr; · iexists K; iexists κ; iexact Hc
      isplitl [Hs]; · iapply (Entails.of_eq (show Mid m c 0 = stateAt m c (t.val + 1) from by rw [h]; rfl)) $$ Hs
      iexact Hp
    isplitl [HO]; · iapply (owesAt_intro m c t.succ (n := 1) (by rw [Fin.val_succ, h])) $$ HO
    isplitl [H0]; · iexact H0
    iapply (Entails.of_eq (leave_right_first m c t h).symm) $$ H1
  · iintro ⟨⟨⟨%K, %κ, #Hc⟩, Hs, Hp⟩, HO, ⟨%d, H0⟩, ⟨%d', H1⟩⟩
    ihave HO' := (owesAt_elim m c t.castSucc (n := t.val) rfl) $$ HO
    ihave H0' := (Entails.of_eq (congrArg (fun X => (owns (c : Thread nD τ) (Gen.st0_0 t) fullShare X : sProp 𝕄)) (before_left m c t d))) $$ H0
    ihave H1' := (raw_of_owns c (Gen.st0_1 t) _) $$ H1
    iapply (step_any m c t h K κ) $$ [Hs HO' H0' H1']
    · isplitr; · iexact Hc
      isplitl [Hs]; · iexact Hs
      isplitl [HO']; · iexact HO'
      isplitl [H0']; · iexact H0'
      iexact H1'
    iintro ⟨Hs, HO, H0, H1⟩
    isplitl [Hs Hp]
    · isplitr; · iexists K; iexists κ; iexact Hc
      isplitl [Hs]; · iexact Hs
      iexact Hp
    isplitl [HO]; · iapply (owesAt_intro m c t.succ (n := t.val + 1) (Fin.val_succ t)) $$ HO
    isplitl [H0]; · iexact H0
    iapply (Entails.of_eq (leave_right m c t h).symm) $$ H1

end Cert.KernelIdeal.Run

end
-- ==== Proof.IRegion.lean ====
/-
  The segments of the program: the host's two casts, then the kernel's region. What a device brings
  to the region from launch, how its cells are opened there, how the whole scratch buffers become the
  protocol's slots and back, and the contents of the unscoped buffers before and after.
-/
module

public import proofs.«01_k».proof.Proof.IDat

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ)

/-! ## The scoped cells -/

/-- The sites whose semaphores are allocated with the kernel's scratch. -/
def scSite : Fin 6 → Site := ![.loc, .cred, .snd 0, .snd 1, .rcv 0, .rcv 1]
/-- Their semaphores. -/
def osem (k : Fin 6) : SemLoc sig := semOf (scSite k)

theorem osem_facts : Pipeline.OwnSemFacts spec0 osem := by decide

/-- A family over the scoped cells, listed. -/
theorem bigSep_sc (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Two families side by side are one family of pairs. -/
theorem zip {I : Type} [Fintype I] (Φ Ψ : I → sProp 𝕄) : iprop(bigSep Finset.univ Φ ∗ bigSep Finset.univ Ψ) ⊢ bigSep Finset.univ fun i => iprop(Φ i ∗ Ψ i) :=
  Entails.of_eq (BI.bigSep_sep _ _ _).symm
theorem unzip {I : Type} [Fintype I] (Φ Ψ : I → sProp 𝕄) : (bigSep Finset.univ fun i => iprop(Φ i ∗ Ψ i)) ⊢ iprop(bigSep Finset.univ Φ ∗ bigSep Finset.univ Ψ) :=
  Entails.of_eq (BI.bigSep_sep _ _ _)

/-! ## What launch deals to a device -/

/-- Positions, tokens and counts that no opening changes. -/
def dealt (c : Dev nD) : sProp 𝕄 :=
  iprop(atPos ER (cell c .bar) 0 ∅ 0 ∗ dutyTok ER (cell c .loc) 0 0 ∗ dutyTok ER (cell (pr c) .bar) 0 0 ∗ sendToks c 0 ∗ credToks c 0 ∗ backToks c
    ∗ (Release.readerAt ES (c, (0 : Fin 2)) 0 ∗ Release.readerAt ES (c, (1 : Fin 2)) 0) ∗ reached ER (cell (pr c) .bar) 0 ∗ cred (waitFrom c 0))

/-- What a device brings to the region: the records, what was dealt, and the right to open its scoped cells. -/
def Tk (c : Dev nD) : sProp 𝕄 :=
  iprop((∃ K κ, ctx m K κ) ∗ dealt c ∗ bigSep Finset.univ fun k => openTok ER (cell c (scSite k)))
/-- The same, the scoped cells open. -/
def Xk (c : Dev nD) : sProp 𝕄 :=
  iprop((∃ K κ, ctx m K κ) ∗ dealt c ∗ bigSep Finset.univ fun k => iprop(atPos ER (cell c (scSite k)) 0 ∅ 0 ∗ reached ER (cell c (scSite k)) 0))
/-- What the region leaves: the barrier's counter at zero. -/
def Yk (c : Dev nD) : sProp 𝕄 := semVal (cell c .bar) 0

theorem hopen (c : Dev nD) : iprop(Tk m c ∗ Pipeline.ownSems0 osem c ∗ levAts (SiteBlocks.L 40) SiteBlocks.lv) ⊢ (|={Set.univ}=> Xk m c : sProp 𝕄) := by
  have one (K κ) (k : Fin 6) : iprop(ctx m K κ ∗ (openTok ER (cell c (scSite k)) ∗ semVal (cell c (scSite k)) 0))
      ⊢ (|={Set.univ}=> iprop(atPos ER (cell c (scSite k)) 0 ∅ 0 ∗ reached ER (cell c (scSite k)) 0) : sProp 𝕄) := by
    iintro ⟨#Hc, Ho, Hv⟩
    iapply (Rounds.cell_open ER (Rd m) (g := cell c (scSite k)) (Set.mem_univ (K (cell c (scSite k)))))
    isplitr; · iapply (ctx_cell c (scSite k)) $$ Hc
    isplitl [Ho] <;> iassumption
  have all (K κ) : iprop(ctx m K κ ∗ bigSep Finset.univ fun k : Fin 6 => iprop(openTok ER (cell c (scSite k)) ∗ semVal (cell c (scSite k)) 0))
      ⊢ (|={Set.univ}=> bigSep Finset.univ fun k : Fin 6 => iprop(atPos ER (cell c (scSite k)) 0 ∅ 0 ∗ reached ER (cell c (scSite k)) 0) : sProp 𝕄) :=
    (bigSep_with_persistent fun k _ => one K κ k).trans (bigSep_fupd _ _)
  unfold Tk Xk Pipeline.ownSems0
  iintro ⟨⟨⟨%K, %κ, #Hc⟩, Hd, Ho⟩, Hv, -⟩
  ihave Hov := (zip (fun k : Fin 6 => openTok ER (cell c (scSite k))) (fun k : Fin 6 => (semVal (cell c (scSite k)) 0 : sProp 𝕄))) $$ [Ho Hv]
  · isplitl [Ho]; · iexact Ho
    iexact Hv
  imod (all K κ) $$ [Hov] with H
  · isplitr; · iexact Hc
    iexact Hov
  imodintro
  isplitr; · iexists K; iexists κ; iexact Hc
  isplitl [Hd]; · iexact Hd
  iexact H

/-! ## The scratch buffers as slots -/

theorem slots_disjoint : Disjoint (slotR 0).set (slotR 1).set := Rect.unit_disjoint 0 (Or.inl (by decide))

theorem slots_cover : (slotR 0).set ∪ (slotR 1).set = Finset.univ := by
  refine Finset.eq_univ_of_forall fun i => ?_
  have h0 : (i 0).val < 2 := (i 0).isLt
  have h1 : (i 1).val < 4096 := (i 1).isLt
  have h2 : (i 2).val < 256 := (i 2).isLt
  rw [Finset.mem_union]
  by_cases h : (i 0).val = 0
  · refine Or.inl (Rect.mem_set_unit.2 fun a => ?_)
    fin_cases a
    · exact ⟨Nat.zero_le _, by show (i 0).val < 0 + 1; omega⟩
    · exact ⟨Nat.zero_le _, by show (i 1).val < 0 + 4096; omega⟩
    · exact ⟨Nat.zero_le _, by show (i 2).val < 0 + 256; omega⟩
  · refine Or.inr (Rect.mem_set_unit.2 fun a => ?_)
    fin_cases a
    · exact ⟨by show 1 ≤ (i 0).val; omega, by show (i 0).val < 1 + 1; omega⟩
    · exact ⟨Nat.zero_le _, by show (i 1).val < 0 + 4096; omega⟩
    · exact ⟨Nat.zero_le _, by show (i 2).val < 0 + 256; omega⟩

/-- A buffer at some contents is its two halves at some contents. -/
theorem halves (ℓ : Loc nD τ sig) {I J : Finset (Idx ℓ)} (hd : Disjoint I J) (hu : I ∪ J = Finset.univ) :
    (iprop(∃ f, ℓ ↦{fullShare} f) : sProp 𝕄) ⊢ iprop(Release.slot ℓ I ∗ Release.slot ℓ J) := by
  unfold Release.slot
  rw [← hu]
  iintro ⟨%f, H⟩
  ihave H' := (pointsTo_union hd).1 $$ H
  icases H' with ⟨H0, H1⟩
  isplitl [H0]
  · iexists f; iexact H0
  · iexists f; iexact H1
theorem halves' (ℓ : Loc nD τ sig) {I J : Finset (Idx ℓ)} (hd : Disjoint I J) (hu : I ∪ J = Finset.univ) :
    iprop(Release.slot ℓ I ∗ Release.slot ℓ J) ⊢ (iprop(∃ f, ℓ ↦{fullShare} f) : sProp 𝕄) := by
  unfold Release.slot
  rw [← hu]
  iintro ⟨⟨%f, H0⟩, ⟨%g, H1⟩⟩
  iexists _
  iapply (pointsTo_join hd)
  isplitl [H0] <;> iassumption

theorem send_slot (c : Dev nD) (s : Fin 2) : (raw c (sendV s) : sProp 𝕄) = Release.slot ((c : Thread nD τ).loc cc0_scratch1) (slotR s).set := by
  unfold raw; rw [show (sendV s).view.set = (slotR s).set from View.set_slice_whole cc0_scratch1 (slotR s)]
theorem recv_slot (c : Dev nD) (s : Fin 2) : (raw c (recvV s) : sProp 𝕄) = Release.slot ((c : Thread nD τ).loc cc0_scratch2) (slotR s).set := by
  unfold raw; rw [show (recvV s).view.set = (slotR s).set from View.set_slice_whole cc0_scratch2 (slotR s)]
theorem a_slot (c : Dev nD) : (raw c aB : sProp 𝕄) = iprop(∃ f, (c : Thread nD τ).loc cc0_scratch0 ↦{fullShare} f) := by
  unfold raw Release.slot; rw [show aB.view.set = Finset.univ from View.set_whole cc0_scratch0]

/-- The scratch buffers, whole, are the protocol's slots. -/
theorem scratch_slots (c : Dev nD) : (Pipeline.scopedRest (Ix := ℕ) (Name := ℕ) (U := UU) (Lvl := ℕ) (Val := Elt F) spec0 c : sProp 𝕄)
    ⊢ iprop(raw c aB ∗ (raw c (sendV 0) ∗ raw c (sendV 1)) ∗ (raw c (recvV 0) ∗ raw c (recvV 1))) := by
  rw [Gen.scopedRest0_eq, a_slot, send_slot, send_slot, recv_slot, recv_slot]
  exact BI.sep_mono (BI.Entails.refl _) (BI.sep_mono (halves _ slots_disjoint slots_cover) (halves _ slots_disjoint slots_cover))
theorem slots_scratch (c : Dev nD) : iprop(raw c aB ∗ (raw c (sendV 0) ∗ raw c (sendV 1)) ∗ (raw c (recvV 0) ∗ raw c (recvV 1)))
    ⊢ (Pipeline.scopedRest (Ix := ℕ) (Name := ℕ) (U := UU) (Lvl := ℕ) (Val := Elt F) spec0 c : sProp 𝕄) := by
  rw [Gen.scopedRest0_eq, a_slot, send_slot, send_slot, recv_slot, recv_slot]
  exact BI.sep_mono (BI.Entails.refl _) (BI.sep_mono (halves' _ slots_disjoint slots_cover) (halves' _ slots_disjoint slots_cover))

/-! ## The unscoped buffers -/

/-- A device's buffers as launched, after the host's casts, and after the kernel. -/
abbrev V₀ (c : Dev nD) : Valuation τ sig (Elt F) := fun b => m (c, b)
abbrev V₁ (c : Dev nD) : Valuation τ sig (Elt F) := StableHlo.after Gen.hostOps0 (V₀ m c)
/-- The kernel's result: every column block written back. -/
def result (c : Dev nD) : Buf (Elt F) ((c : Thread nD τ).loc main_v3) := (dat m c).arrAt 1 cfg0.N
abbrev V₂ (c : Dev nD) : Valuation τ sig (Elt F) := Function.update (V₁ m c) (Proc.devRef .tc main_v3) (result m c)

/-- The buffer the body addresses itself. -/
def Hs : Finset (DevRef τ sig) := {Proc.devRef .tc main_v1}
/-- The buffers that are no window's array. -/
def Sr : Finset (DevRef τ sig) := {Proc.devRef .tc main_arg0, Proc.devRef .tc main_arg1, Proc.devRef .tc main_v1}

theorem Hs_sub : Hs ⊆ Sr := by decide

abbrev ptv (c : Dev nD) (b : Ref sig .tc) (W : Valuation τ sig (Elt F)) : sProp 𝕄 := (c : Thread nD τ).loc b ↦{fullShare} W (Proc.devRef .tc b)

theorem held_Hs (c : Dev nD) (W : Valuation τ sig (Elt F)) : (StableHlo.held (c : Thread nD τ) Hs W : sProp 𝕄) = ptv c main_v1 W := by
  unfold StableHlo.held Hs; rw [BI.bigSep_singleton]
theorem held_Sr (c : Dev nD) (W : Valuation τ sig (Elt F)) :
    (StableHlo.held (c : Thread nD τ) Sr W : sProp 𝕄) = iprop(ptv c main_arg0 W ∗ ptv c main_arg1 W ∗ ptv c main_v1 W) := by
  unfold StableHlo.held
  rw [bigSep_eq_bigSepL_of_eq [Proc.devRef .tc main_arg0, Proc.devRef .tc main_arg1, Proc.devRef .tc main_v1] (by decide) (by decide)]
  rfl
theorem held_arr (c : Dev nD) (W : Valuation τ sig (Elt F)) :
    (StableHlo.held (c : Thread nD τ) (Pipeline.arrRefs (τ := τ) spec0) W : sProp 𝕄) = iprop(ptv c main_v2 W ∗ ptv c main_v3 W) := by
  unfold StableHlo.held
  rw [bigSep_eq_bigSepL_of_eq [Proc.devRef .tc main_v2, Proc.devRef .tc main_v3] (by decide) (by decide)]
  rfl
theorem uc_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) Sr W) := by
  have hs : Pipeline.ucRefs τ sig = Pipeline.arrRefs (τ := τ) spec0 ∪ Sr := by decide
  have hd : Disjoint (Pipeline.arrRefs (τ := τ) spec0) Sr := by decide
  unfold StableHlo.held
  rw [hs, BI.bigSep_union hd]
  rfl

theorem V₂_of_ne (c : Dev nD) {b : DevRef τ sig} (h : b ≠ Proc.devRef .tc main_v3) : V₂ m c b = V₁ m c b := Function.update_of_ne h _ _
theorem V₂_result (c : Dev nD) : V₂ m c (Proc.devRef .tc main_v3) = result m c := Function.update_self ..

theorem x_owns (c : Dev nD) : (owns (c : Thread nD τ) xB fullShare (Aof m c) : sProp 𝕄) = ptv c main_v1 (V₁ m c) :=
  owns_whole (c : Thread nD τ) main_v1 fullShare (Aof m c)

end Cert.KernelIdeal.Run

end
-- ==== Proof.IReg.lean ====
/-
  The kernel's region as a segment that talks across devices: from the slots and the opened cells to the
  state before the first step, and from the state after the last one back to the whole buffers.
-/
module

public import proofs.«01_k».proof.Proof.IRegion

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ)

abbrev adm : (p : Fin 1) → (pcfgs (F := F) p).Adm := fun p => (cfgs p).toPCfg_adm
/-- The program's one pipeline. -/
def pdats : (p : Fin 1) → (c : Dev nD) → Dat τ (Elt F) ℕ ℕ UU ℕ (Pipeline.pin (pcfgs (F := F)) adm p) c
  | 0 => dat m

/-- The state before the first step, from the slots, the left operand and what was dealt. -/
theorem start_intro (c : Dev nD) :
    iprop((raw c aB ∗ (raw c (sendV 0) ∗ raw c (sendV 1)) ∗ (raw c (recvV 0) ∗ raw c (recvV 1))) ∗ owns (c : Thread nD τ) xB fullShare (Aof m c)
        ∗ dealt c ∗ bigSep Finset.univ fun k => iprop(atPos ER (cell c (scSite k)) 0 ∅ 0 ∗ reached ER (cell c (scSite k)) 0))
      ⊢ (Start m c : sProp 𝕄) := by
  rw [bigSep_sc]
  unfold dealt Start Snd SF Cr
  iintro ⟨⟨Ha, ⟨Hs0, Hs1⟩, ⟨Hr0, Hr1⟩⟩, Hx, ⟨Hbar, Htl, Htb, Hst, Hct, Hbk, ⟨Hd0, Hd1⟩, Hrb, Hcr⟩,
    ⟨Pl, Rl⟩, ⟨Pc, Rc⟩, ⟨Ps0, Rs0⟩, ⟨Ps1, Rs1⟩, ⟨Pr0, Rr0⟩, ⟨Pr1, Rr1⟩⟩
  isplitl [Ha Hx Pl Rl Htl]
  · isplitl [Ha]; · iexact Ha
    isplitl [Hx]; · iexact Hx
    isplitl [Pl]; · iexact Pl
    isplitl [Rl]; · iexact Rl
    iexact Htl
  isplitl [Hbar Htb Hrb]
  · isplitl [Hbar]; · iexact Hbar
    isplitl [Htb]; · iexact Htb
    iexact Hrb
  isplitl [Hs0 Hs1 Ps0 Ps1 Rs0 Rs1]
  · isplitl [Hs0 Ps0 Rs0]
    · isplitl [Hs0]; · iexact Hs0
      isplitl [Ps0]; · iexact Ps0
      iexact Rs0
    · isplitl [Hs1]; · iexact Hs1
      isplitl [Ps1]; · iexact Ps1
      iexact Rs1
  isplitl [Hr0 Hr1 Pr0 Pr1 Rr0 Rr1 Hd0 Hd1]
  · isplitl [Hr0 Pr0 Rr0 Hd0]
    · isplitl [Pr0]; · iexact Pr0
      isplitl [Rr0]; · iexact Rr0
      isplitl [Hd0]; · iexact Hd0
      iexact Hr0
    · isplitl [Pr1]; · iexact Pr1
      isplitl [Rr1]; · iexact Rr1
      isplitl [Hd1]; · iexact Hd1
      iexact Hr1
  isplitl [Pc Rc]
  · isplitl [Pc]
    · iexists ∅
      isplitr; · ipureintro; exact Finset.empty_subset _
      isplitl [Pc]; · iexact Pc
      rw [BI.bigSep_empty]; iempintro
    iexact Rc
  isplitl [Hst]; · iexact Hst
  isplitl [Hct]; · iexact Hct
  isplitl [Hbk]; · iexact Hbk
  iexact Hcr

theorem Φ_first (c : Dev nD) : (pdats (F := F) m 0 c).Φ 0 = iprop((∃ K κ, ctx m K κ) ∗ Start m c ∗ ∃ r, prngReg c r) := rfl
theorem Φ_last (c : Dev nD) : (pdats (F := F) m 0 c).Φ (Fin.last (Pipeline.pin (pcfgs (F := F)) adm 0).N)
    = iprop((∃ K κ, ctx m K κ) ∗ End m c ∗ ∃ r, prngReg c r) := rfl

theorem hin (c : Dev nD) :
    iprop(Pipeline.scopedRest (Pipeline.pin (pcfgs (F := F)) adm 0).spec c ∗ (∃ r, prngReg c r) ∗ StableHlo.held (c.tc : Thread nD τ) Hs (V₁ m c) ∗ Xk m c)
      ⊢ (pdats m 0 c).Φ 0 := by
  rw [Φ_first, held_Hs, ← x_owns]
  unfold Xk
  iintro ⟨Hs, Hp, Hx, HK, Hd, Ho⟩
  ihave Hs' := (scratch_slots c) $$ Hs
  isplitl [HK]; · iexact HK
  isplitr [Hp]
  · iapply (start_intro m c)
    isplitl [Hs']; · iexact Hs'
    isplitl [Hx]; · iexact Hx
    isplitl [Hd]; · iexact Hd
    iexact Ho
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c)
        ∗ Pipeline.ownSems0 osem c ∗ Yk c) := by
  rw [Φ_last, held_Hs, show ptv c main_v1 (V₂ m c) = ptv c main_v1 (V₁ m c) from by unfold ptv; rw [V₂_of_ne m c (by decide)], ← x_owns]
  unfold End Yk Pipeline.ownSems0
  rw [bigSep_sc]
  iintro ⟨-, ⟨⟨Ha, Hx⟩, ⟨Hl, Hb, Hc, ⟨Hs0, Hs1⟩, ⟨Hr0, Hr1⟩⟩, HS, HR⟩, Hp⟩
  isplitl [Ha HS HR]
  · iapply (slots_scratch c)
    isplitl [Ha]; · iexact Ha
    isplitl [HS]; · iexact HS
    iexact HR
  isplitl [Hp]; · iexact Hp
  isplitl [Hx]; · iexact Hx
  isplitr [Hb]
  · isplitl [Hl]; · iexact Hl
    isplitl [Hc]; · iexact Hc
    isplitl [Hs0]; · iexact Hs0
    isplitl [Hs1]; · iexact Hs1
    isplitl [Hr0]; · iexact Hr0
    iexact Hr1
  iexact Hb

theorem kitP : Pipeline.PLaunchFacts (nD := nD) (τ := τ) (pcfgs (F := F)) 0 := Gen.launch0.toP

/-- Whatever a device owes lies above the pipeline's own waits. -/
theorem cut (c : Dev nD) (t : Fin ((Pipeline.pin (pcfgs (F := F)) adm 0).N + 1)) (g : GSem nD τ sig) (i : ℕ)
    (h : 0 < (pdats (F := F) m 0 c).owed t g i) : i ∈ SiteBlocks.L 40 g ∧ 0 < SiteBlocks.lv g i := by
  have h' := from_dueFrom c t.val g i h
  exact ⟨h'.1, lt_of_lt_of_le (Nat.succ_pos _) h'.2⟩

theorem share_full (c : Dev nD) (w : Fin (Pipeline.pin (pcfgs (F := F)) adm 0).W) : (pdats (F := F) m 0 c).share w = fullShare := by
  unfold Dat.share
  split <;> rfl

theorem arr_entry (c : Dev nD) (w : Fin (Pipeline.pin (pcfgs (F := F)) adm 0).W) :
    (pdats m 0 c).arrAt w 0 = V₁ m c (Proc.devRef .tc (Pipeline.arrRef (Pipeline.pin (pcfgs (F := F)) adm 0).spec w)) := rfl
theorem arr_exit (c : Dev nD) : ∀ w : Fin (Pipeline.pin (pcfgs (F := F)) adm 0).W,
    (pdats m 0 c).arrAt w (Pipeline.pin (pcfgs (F := F)) adm 0).N = V₂ m c (Proc.devRef .tc (Pipeline.arrRef (Pipeline.pin (pcfgs (F := F)) adm 0).spec w))
  | 0 => ((dat m c).arrAt_in 0 rfl _).trans (V₂_of_ne m c (b := Proc.devRef .tc main_v2) (by decide)).symm
  | 1 => (V₂_result m c).symm

set_option backward.isDefEq.respectTransparency.types false in
/-- The region. -/
def reg : Pipeline.RegionSeg (pcfgs (F := F)) adm (pdats m) 0 defs₀ 𝒱₀ (SiteBlocks.L 40) SiteBlocks.lv 0 :=
  Pipeline.RegionSeg.ofTalk (pcfgs (F := F)) adm (pdats m) 0 defs₀ 𝒱₀ (SiteBlocks.L 40) SiteBlocks.lv 0 osem osem_facts
    Hs Sr Hs_sub kitP rfl (fun c => (body m c).loose)
    (fun _ => 0) (fun c => dueFrom c 0) (fun c => (zero_add _).symm) (fun c => dueFrom_end c) (fun _ => rfl) (share_full m)
    (V₁ m) (V₂ m) (fun c b hb => V₂_of_ne m c (fun h => by subst h; revert hb; decide))
    (Tk m) Yk (Xk m) Yk (hopen m) (hin m) (hout m)
    (fun c => by iintro H; imodintro; iexact H)
    (fun _ => 0)
    ⟨fun c w s => SiteBlocks.mem_L c _ (by decide), fun _ _ _ => le_refl _, fun c t g i h => cut m c t g i h⟩
    (fun _ => iprop(emp))
    (arr_entry m) (arr_exit m)

end Cert.KernelIdeal.Run

end
-- ==== Proof.ILaunch.lean ====
/-
  The launch: every cell's and every receive slot's invariant is allocated once for all devices, and the
  tokens are dealt, each to the device that uses it.
-/
module

public import proofs.«01_k».proof.Proof.IReg

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The cells -/

def barEmb : Dev nD ↪ GSem nD τ sig := ⟨fun c => cell c .bar, fun _ _ h => (cell_inj h).1⟩
theorem scSite_inj : Function.Injective scSite := by decide
def scEmb : Dev nD × Fin 6 ↪ GSem nD τ sig :=
  ⟨fun x => cell x.1 (scSite x.2), fun _ _ h => Prod.ext (cell_inj h).1 (scSite_inj (cell_inj h).2)⟩
/-- The barrier cells, whose counters launch hands over, and the others, opened at the region. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact (by decide : ∀ k, scSite k ≠ .bar) x.2 (cell_inj h).2

theorem site_cases : ∀ k : Site, k = .bar ∨ ∃ i, k = scSite i := by
  have h : ∀ k ∈ sites, k = .bar ∨ ∃ i, k = scSite i := by decide
  exact fun k => h k (mem_sites k)

theorem allCells_sub : (allCells : Finset (GSem nD τ sig)) ⊆ barCells ∪ scCells := fun g hg => by
  obtain ⟨d, -, hd⟩ := Finset.mem_biUnion.mp hg
  obtain ⟨k, -, rfl⟩ := List.mem_map.mp (List.mem_toFinset.mp hd)
  rcases site_cases k with rfl | ⟨i, rfl⟩
  · exact Finset.mem_union_left _ (Finset.mem_map_of_mem barEmb (Finset.mem_univ d))
  · exact Finset.mem_union_right _ (Finset.mem_map_of_mem scEmb (Finset.mem_univ (d, i)))

/-! ## The tokens -/

theorem slot_round_inj : Function.Injective fun b : ℕ => (sl b, b / 2) := fun a b h => by
  have h1 : a % 2 = b % 2 := congrArg (fun x : Fin 2 × ℕ => x.1.val) h
  have h2 : a / 2 = b / 2 := congrArg Prod.snd h
  omega

def credKey : ℕ ↪ Site × ℕ × ℕ := ⟨fun d => (.cred, 0, d), fun _ _ h => congrArg (fun x : Site × ℕ × ℕ => x.2.2) h⟩
def sndKey : ℕ ↪ Site × ℕ × ℕ := ⟨fun b => (.snd (sl b), b / 2, 0), fun a b h => slot_round_inj (Prod.ext
  (Site.snd.inj (congrArg Prod.fst h)) (congrArg (fun x : Site × ℕ × ℕ => x.2.1) h))⟩
def rcvKey : ℕ ↪ Site × ℕ × ℕ := ⟨fun b => (.rcv (sl b), b / 2, 0), fun a b h => slot_round_inj (Prod.ext
  (Site.rcv.inj (congrArg Prod.fst h)) (congrArg (fun x : Site × ℕ × ℕ => x.2.1) h))⟩

/-- Block `b`'s write into device `c`'s slot. -/
def writeKey (c : Dev nD) : ℕ ↪ (Dev nD × Fin 2) × ℕ := ⟨fun b => ((c, sl b), b / 2), fun a b h => slot_round_inj (Prod.ext
  (congrArg (fun x : (Dev nD × Fin 2) × ℕ => x.1.2) h) (congrArg (fun x : (Dev nD × Fin 2) × ℕ => x.2) h))⟩

/-- One device's duties. -/
def keys : Finset (Site × ℕ × ℕ) :=
  {(.bar, 0, 0)} ∪ ({(.loc, 0, 0)} ∪ ((Finset.Ico 0 16).map credKey ∪ ((Finset.Ico 0 16).map sndKey ∪ (Finset.Ico 0 16).map rcvKey)))

def tokEmb (c : Dev nD) : Site × ℕ × ℕ ↪ GSem nD τ sig × ℕ × ℕ :=
  ⟨fun x => (cell c x.1, x.2.1, x.2.2), fun _ _ h => Prod.ext (cell_inj (congrArg Prod.fst h)).2 (by
    simpa using congrArg Prod.snd h)⟩
/-- Every device's duties. -/
def toks : Finset (GSem nD τ sig × ℕ × ℕ) := Finset.univ.biUnion fun c => keys.map (tokEmb c)

theorem toks_eq (Φ : GSem nD τ sig × ℕ × ℕ → sProp 𝕄) :
    bigSep toks Φ = bigSep Finset.univ fun c : Dev nD => iprop(Φ (cell c .bar, 0, 0) ∗ Φ (cell c .loc, 0, 0)
      ∗ (bigSep (Finset.Ico 0 16) fun d => Φ (cell c .cred, 0, d)) ∗ (bigSep (Finset.Ico 0 16) fun b => Φ (cell c (.snd (sl b)), b / 2, 0))
      ∗ bigSep (Finset.Ico 0 16) fun b => Φ (cell c (.rcv (sl b)), b / 2, 0)) := by
  unfold toks
  rw [bigSep_biUnion_eq _ _ _ fun c _ c' _ hne => by
    rw [Finset.disjoint_left]
    rintro x h h'
    obtain ⟨y, -, rfl⟩ := Finset.mem_map.mp h
    obtain ⟨z, -, hz⟩ := Finset.mem_map.mp h'
    exact hne (cell_inj (congrArg Prod.fst hz)).1.symm]
  refine bigSep_congr fun c _ => ?_
  rw [BI.bigSep_map]
  unfold keys
  rw [BI.bigSep_union (by decide), BI.bigSep_union (by decide), BI.bigSep_union (by decide), BI.bigSep_union (by decide), BI.bigSep_singleton, BI.bigSep_singleton,
    BI.bigSep_map, BI.bigSep_map, BI.bigSep_map]
  rfl

/-- The write tokens of one device's receive slots: eight for its partner's transfers into each, one to take each back. -/
theorem writes_eq (Φ : (Dev nD × Fin 2) × ℕ → sProp 𝕄) :
    bigSep ((Finset.univ : Finset (Dev nD × Fin 2)) ×ˢ Finset.range 9) Φ = bigSep Finset.univ fun c : Dev nD =>
      iprop((bigSep (Finset.Ico 0 16) fun b => Φ ((c, sl b), b / 2)) ∗ (Φ ((c, 0), 8) ∗ Φ ((c, 1), 8))) := by
  have split : (Finset.univ : Finset (Dev nD × Fin 2)) ×ˢ Finset.range 9
      = Finset.univ.biUnion fun c : Dev nD => (Finset.Ico 0 16).map (writeKey c) ∪ ({((c, 0), 8)} ∪ {((c, 1), 8)}) := by decide
  rw [split, bigSep_biUnion_eq _ _ _ (by decide)]
  refine bigSep_congr fun c _ => ?_
  rw [BI.bigSep_union (by revert c; decide), BI.bigSep_union (by revert c; decide), BI.bigSep_singleton, BI.bigSep_singleton, BI.bigSep_map]
  rfl

/-- A device and its partner exchanged. -/
def swap : Dev nD ≃ Dev nD := ⟨pr, pr, pr_pr, pr_pr⟩

/-- What a device's own cells and slots come with. -/
def minted (c : Dev nD) : sProp 𝕄 :=
  iprop((dutyTok ER (cell c .bar) 0 0 ∗ dutyTok ER (cell c .loc) 0 0 ∗ (bigSep (Finset.Ico 0 16) fun d => dutyTok ER (cell c .cred) 0 d)
      ∗ (bigSep (Finset.Ico 0 16) fun b => dutyTok ER (cell c (.snd (sl b))) (b / 2) 0) ∗ bigSep (Finset.Ico 0 16) fun b => dutyTok ER (cell c (.rcv (sl b))) (b / 2) 0)
    ∗ ((bigSep (Finset.Ico 0 16) fun b => Release.writeTok ES (c, sl b) (b / 2 + 1)) ∗ backToks c))
/-- The tokens a device uses: of its own cells the transfers' departures, of its partner's their arrivals. -/
def used (c : Dev nD) : sProp 𝕄 :=
  iprop(dutyTok ER (cell c .loc) 0 0 ∗ dutyTok ER (cell (pr c) .bar) 0 0 ∗ sendToks c 0 ∗ credToks c 0 ∗ backToks c)

/-- An entailment at every device. -/
theorem each {Φ Ψ : Dev nD → sProp 𝕄} (h : ∀ c, Φ c ⊢ Ψ c) : bigSep Finset.univ Φ ⊢ bigSep Finset.univ Ψ := BI.bigSep_mono fun c _ => h c

/-- The tokens minted are the tokens used, dealt between partners. -/
theorem deal : (bigSep Finset.univ fun c : Dev nD => (minted c : sProp 𝕄)) ⊢ bigSep Finset.univ fun c : Dev nD => used c := by
  have mine (c : Dev nD) : (minted c : sProp 𝕄) ⊢ iprop((dutyTok ER (cell c .loc) 0 0 ∗ (bigSep (Finset.Ico 0 16) fun b => dutyTok ER (cell c (.snd (sl b))) (b / 2) 0) ∗ backToks c)
      ∗ (dutyTok ER (cell c .bar) 0 0 ∗ (bigSep (Finset.Ico 0 16) fun d => dutyTok ER (cell c .cred) 0 d) ∗ (bigSep (Finset.Ico 0 16) fun b => dutyTok ER (cell c (.rcv (sl b))) (b / 2) 0)
        ∗ bigSep (Finset.Ico 0 16) fun b => Release.writeTok ES (c, sl b) (b / 2 + 1))) := by
    unfold minted
    iintro ⟨⟨Hb, Hl, Hc, Hs, Hr⟩, Hw, Hk⟩
    isplitl [Hl Hs Hk]
    · isplitl [Hl]; · iexact Hl
      isplitl [Hs] <;> iassumption
    isplitl [Hb]; · iexact Hb
    isplitl [Hc]; · iexact Hc
    isplitl [Hr] <;> iassumption
  have sends (c : Dev nD) : iprop((bigSep (Finset.Ico 0 16) fun b => dutyTok ER (cell c (.snd (sl b))) (b / 2) 0) ∗ (bigSep (Finset.Ico 0 16) fun b => dutyTok ER (cell (pr c) (.rcv (sl b))) (b / 2) 0)
        ∗ bigSep (Finset.Ico 0 16) fun b => Release.writeTok ES (pr c, sl b) (b / 2 + 1)) ⊢ (sendToks c 0 : sProp 𝕄) := by
    unfold sendToks sendTok
    exact Entails.of_eq (by rw [bigSep_sep', bigSep_sep'])
  have theirs (c : Dev nD) : iprop((dutyTok ER (cell c .loc) 0 0 ∗ (bigSep (Finset.Ico 0 16) fun b => dutyTok ER (cell c (.snd (sl b))) (b / 2) 0) ∗ backToks c)
      ∗ (dutyTok ER (cell (pr c) .bar) 0 0 ∗ (bigSep (Finset.Ico 0 16) fun d => dutyTok ER (cell (pr c) .cred) 0 d) ∗ (bigSep (Finset.Ico 0 16) fun b => dutyTok ER (cell (pr c) (.rcv (sl b))) (b / 2) 0)
        ∗ bigSep (Finset.Ico 0 16) fun b => Release.writeTok ES (pr c, sl b) (b / 2 + 1))) ⊢ (used c : sProp 𝕄) := by
    unfold used credToks
    iintro ⟨⟨Hl, Hs, Hk⟩, Hb, Hc, Hr, Hw⟩
    isplitl [Hl]; · iexact Hl
    isplitl [Hb]; · iexact Hb
    isplitl [Hs Hr Hw]
    · iapply (sends c)
      isplitl [Hs]; · iexact Hs
      isplitl [Hr] <;> iassumption
    isplitl [Hc]; · iexact Hc
    iexact Hk
  refine BIBase.Entails.trans (each mine) (BIBase.Entails.trans ?_ (each theirs))
  have crossed (Φ Ψ : Dev nD → sProp 𝕄) : (bigSep Finset.univ fun c => iprop(Φ c ∗ Ψ c)) ⊢ bigSep Finset.univ fun c => iprop(Φ c ∗ Ψ (pr c)) := by
    have h : bigSep Finset.univ Ψ = bigSep Finset.univ fun c => Ψ (pr c) := BI.bigSep_univ_equiv swap Ψ
    exact Entails.of_eq (by rw [bigSep_sep', bigSep_sep', h])
  exact crossed _ (fun c => iprop(dutyTok ER (cell c .bar) 0 0 ∗ (bigSep (Finset.Ico 0 16) fun d => dutyTok ER (cell c .cred) 0 d)
    ∗ (bigSep (Finset.Ico 0 16) fun b => dutyTok ER (cell c (.rcv (sl b))) (b / 2) 0) ∗ bigSep (Finset.Ico 0 16) fun b => Release.writeTok ES (c, sl b) (b / 2 + 1)))

/-! ## The launch element -/

theorem cellOf_inj : Function.Injective (Pipeline.cellOf (nD := nD) (τ := τ) (Pipeline.pin (pcfgs (F := F)) adm)) := Gen.cellOf_inj

abbrev slotKeys : Finset (Dev nD × Fin 2) := Finset.univ

def u₀ : UU :=
  (initOf (Pipeline.cells (Pipeline.pin (pcfgs (F := F)) adm) cellOf_inj) (Pipeline.launchToks (Pipeline.pin (pcfgs (F := F)) adm) cellOf_inj),
    (launchOf barCells scCells toks, Release.initSlots slotKeys 9))

/-- The protocol's part of it. -/
def seed : sProp 𝕄 := iprop(BI.own (ER (launchOf barCells scCells toks)) ∗ BI.own (ES (Release.initSlots slotKeys 9)))

/-- Device 0 carries the seed until every device's holdings are together. -/
def G (c : Dev nD) : sProp 𝕄 := if c = 0 then seed else iprop(emp)

theorem G_all : bigSep Finset.univ (G (F := F)) = seed := by
  rw [BI.bigSep_univ_at _ (0 : Dev nD), BI.bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- The records every device consults. -/
def records (K : GSem nD τ sig → ℕ) (κ : Dev nD × Fin 2 → ℕ) : sProp 𝕄 :=
  iprop(ctx m K κ ∗ bigSep Finset.univ fun c : Dev nD => reached ER (cell c .bar) 0)
instance records_persistent (K κ) : BI.Persistent (records (F := F) m K κ) := by unfold records; infer_instance

/-- What a device holds of its own when the region's turn comes. -/
def own (c : Dev nD) : sProp 𝕄 :=
  iprop(atPos ER (cell c .bar) 0 ∅ 0 ∗ used c ∗ (Release.readerAt ES (c, (0 : Fin 2)) 0 ∗ Release.readerAt ES (c, (1 : Fin 2)) 0)
    ∗ bigSep Finset.univ fun k => openTok ER (cell c (scSite k)))
/-- What launch gives it beside. -/
def given (c : Dev nD) : sProp 𝕄 :=
  iprop(StableHlo.held (c : Thread nD τ) (Pipeline.ucRefs τ sig) (V₀ m c) ∗ cred (waitFrom c 0) ∗ owes (c : Thread nD τ) (dueFrom c 0) ∅ ∗ ∃ r, prngReg c r)

/-- What stays beside the buffers over the host operations. -/
def R (c : Dev nD) : sProp 𝕄 := iprop(Tk m c ∗ (∃ r, prngReg c r) ∗ ∃ W, owes (c : Thread nD τ) (dueFrom c 0) W)
abbrev T₀ (c : Dev nD) : sProp 𝕄 := iprop(StableHlo.held (c : Thread nD τ) (Pipeline.ucRefs τ sig) (V₀ m c) ∗ R m c)
abbrev Tₙ (c : Dev nD) : sProp 𝕄 :=
  iprop(StableHlo.held (c : Thread nD τ) (Pipeline.arrRefs (τ := τ) spec0) (V₂ m c) ∗ StableHlo.held (c : Thread nD τ) Sr (V₂ m c) ∗ Yk c)

theorem T₀_intro (K κ) (c : Dev nD) : iprop(records m K κ ∗ (own c ∗ given m c)) ⊢ (T₀ m c : sProp 𝕄) := by
  have partner : (bigSep Finset.univ fun d : Dev nD => (reached ER (cell d .bar) 0 : sProp 𝕄)) ⊢ reached ER (cell (pr c) .bar) 0 :=
    bigSep_elim (Finset.mem_univ (pr c))
  unfold records own used given T₀ R Tk dealt
  iintro ⟨⟨#Hc, #HR⟩, ⟨Ha, ⟨Hl, Hb, Hs, Hcr, Hk⟩, Hrd, Ho⟩, Hh, Hw, HO, Hp⟩
  isplitl [Hh]; · iexact Hh
  isplitr [Hp HO]
  · isplitr; · iexists K, κ; iexact Hc
    isplitr [Ho]
    · isplitl [Ha]; · iexact Ha
      isplitl [Hl]; · iexact Hl
      isplitl [Hb]; · iexact Hb
      isplitl [Hs]; · iexact Hs
      isplitl [Hcr]; · iexact Hcr
      isplitl [Hk]; · iexact Hk
      isplitl [Hrd]; · iexact Hrd
      isplitr; · iapply partner; iexact HR
      iexact Hw
    iexact Ho
  isplitl [Hp]; · iexact Hp
  iexists ∅; iexact HO

theorem unscopedSems0_eq (c : Dev nD) : (unscopedSems0 c : sProp 𝕄) = semVal (cell c .bar) 0 := by
  unfold unscopedSems0
  rw [show (Finset.univ.filter fun sm : SemLoc sig => ¬ sm.isScoped .tc) = {SemLoc.reg barS} from by decide, BI.bigSep_singleton]
  rfl

/-- Launch: from every device's holdings to every device's first state. -/
theorem init :
    iprop((bigSep Finset.univ fun c : Dev nD => iprop(unscopedBufs c (fun b => m ((c : Thread nD τ).loc b)) ∗ unscopedSems0 c
          ∗ owes (c : Thread nD τ) (dueFrom c 0) ∅ ∗ Pipeline.launchCred (fun d => dueFrom d 0) c ∗ prngReg c (ρ c) ∗ G c))
        ∗ levAts (SiteBlocks.L 40) SiteBlocks.lv)
      ⊢ (|={Set.univ}=> bigSep Finset.univ (T₀ m) : sProp 𝕄) := by
  have core (c : Dev nD) : iprop(unscopedBufs c (fun b => m ((c : Thread nD τ).loc b)) ∗ unscopedSems0 c
        ∗ owes (c : Thread nD τ) (dueFrom c 0) ∅ ∗ Pipeline.launchCred (fun d => dueFrom d 0) c ∗ prngReg c (ρ c) ∗ G c)
      ⊢ (iprop(given m c ∗ (semVal (cell c .bar) 0 ∗ G c)) : sProp 𝕄) := by
    rw [show unscopedBufs c (fun b => m ((c : Thread nD τ).loc b)) = StableHlo.held (c : Thread nD τ) (Pipeline.ucRefs τ sig) (V₀ m c) from
      Pipeline.unscopedBufs_held c (V₀ m c), unscopedSems0_eq, launch_waits]
    unfold given
    iintro ⟨Hh, Hv, HO, Hw, Hp, HG⟩
    isplitr [Hv HG]
    · isplitl [Hh]; · iexact Hh
      isplitl [Hw]; · iexact Hw
      isplitl [HO]; · iexact HO
      iexists (ρ c); iexact Hp
    isplitl [Hv] <;> iassumption
  have bars (Φ : GSem nD τ sig → sProp 𝕄) : bigSep barCells Φ = bigSep Finset.univ fun c : Dev nD => Φ (cell c .bar) := BI.bigSep_map barEmb ..
  have opens : bigSep scCells (fun g => (openTok ER g : sProp 𝕄)) = bigSep Finset.univ fun c : Dev nD => bigSep Finset.univ fun k => openTok ER (cell c (scSite k)) := by
    rw [BI.bigSep_map, BI.bigSep_univ_prod]; rfl
  have readers : bigSep slotKeys (fun k => (Release.readerAt ES k 0 : sProp 𝕄))
      = bigSep Finset.univ fun c : Dev nD => iprop(Release.readerAt ES (c, (0 : Fin 2)) 0 ∗ Release.readerAt ES (c, (1 : Fin 2)) 0) := by
    rw [BI.bigSep_univ_prod]
    exact bigSep_congr fun c _ => BI.bigSep_fin_two (fun k : Fin 2 => (Release.readerAt ES (c, k) 0 : sProp 𝕄))
  have mint : iprop(bigSep toks (fun x => (dutyTok ER x.1 x.2.1 x.2.2 : sProp 𝕄))
        ∗ bigSep (slotKeys ×ˢ Finset.range 9) (fun x => (Release.writeTok ES x.1 (x.2 + 1) : sProp 𝕄)))
      ⊢ bigSep Finset.univ fun c : Dev nD => used c := by
    rw [toks_eq, writes_eq]
    exact (zip _ _).trans (deal (F := F))
  have live (K : GSem nD τ sig → ℕ) : (bigSep (barCells ∪ scCells) fun g => (cellInv ER (Rd m) (K g) g : sProp 𝕄)) ⊢ bigSep allCells fun g => cellInv ER (Rd m) (K g) g :=
    BI.bigSep_subset allCells_sub
  iintro ⟨H, #HL⟩
  ihave H1 := (each core) $$ H
  ihave H2 := (unzip _ _) $$ H1; icases H2 with ⟨HB, H3⟩
  ihave H4 := (unzip _ _) $$ H3; icases H4 with ⟨Hv, HG⟩
  ihave Hu := (Entails.of_eq (G_all (F := F))) $$ HG
  unfold seed
  icases Hu with ⟨HuR, HuS⟩
  imod (Rounds.fund_launch ER (Rd m) disjoint_cells (fun g _ h => h) toks) $$ [Hv HuR] with ⟨%K, -, #Hinv, #Hr, Hat, Hopen, Htok⟩
  · isplitl [Hv]
    · iapply (Entails.of_eq (bars fun g => semVal g 0).symm) $$ Hv
    · iexact HuR
  imod (Release.slots_init ES slotKeys 9 Sl) $$ HuS with ⟨%κ, -, #Hslot, Hrd, Hw⟩
  imodintro
  iapply (bigSep_with_persistent (R := records m K κ) (Φ := fun c => iprop(own c ∗ given m c)) fun c _ => T₀_intro m K κ c)
  isplitr
  · unfold records ctx
    isplitr
    · isplitr; · iapply (live K); iexact Hinv
      isplitr; · iexact Hslot
      iexact HL
    iapply (Entails.of_eq (bars fun g => reached ER g 0)); iexact Hr
  iapply (zip _ _)
  isplitr [HB]
  · unfold own
    iapply (zip _ _); isplitl [Hat]; · iapply (Entails.of_eq (bars fun g => atPos ER g 0 ∅ 0)) $$ Hat
    iapply (zip _ _); isplitl [Htok Hw]
    · iapply mint
      isplitl [Htok] <;> iassumption
    iapply (zip _ _); isplitl [Hrd]; · iapply (Entails.of_eq readers) $$ Hrd
    iapply (Entails.of_eq opens) $$ Hopen
  iexact HB

end Cert.KernelIdeal.Run

end
-- ==== Proof.IRun.lean ====
/-
  The run of the whole program: every device's arguments are left unchanged, its result is every
  column block written back, and every semaphore is at zero again.
-/
module

public import proofs.«01_k».proof.Proof.ILaunch

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The host's conversions of the two arguments. -/
def host : Pipeline.HostSeg (Ix := ℕ) (Name := ℕ) (U := UU) (Lvl := ℕ) (pcfgs (F := F)) defs₀ 𝒱₀ (SiteBlocks.L 40) SiteBlocks.lv :=
  Pipeline.HostSeg.ofOps (pcfgs (F := F)) defs₀ 𝒱₀ (SiteBlocks.L 40) SiteBlocks.lv (Pipeline.ucRefs τ sig) Gen.hostOps0
    (fun op hop => Pipeline.sub_ucRefs op (List.forall_iff_forall_mem.mp Gen.hostOps0_sub op hop))
    (fun op hop => List.forall_iff_forall_mem.mp Gen.hostOps0_fresh op hop) (V₀ m) (R m)

def segs : List (Pipeline.Seg (pcfgs (F := F)) adm (pdats m) 0 defs₀ 𝒱₀ (SiteBlocks.L 40) SiteBlocks.lv) := [.host (host m), .region (reg m)]

theorem main_eq (c : Dev nD) : main (F := F) c = Pipeline.Seg.run (segs m) :=
  Gen.main_segs adm (pdats m) 0 𝒱₀ (SiteBlocks.L 40) SiteBlocks.lv (host m) (reg m) rfl c

/-- What the host operations leave is what the region takes. -/
theorem reg_pre (c : Dev nD) : iprop(StableHlo.held (c : Thread nD τ) (Pipeline.ucRefs τ sig) (V₁ m c) ∗ R m c) ⊢ (reg m).pre c := by
  show _ ⊢ iprop(StableHlo.held (c : Thread nD τ) (Pipeline.arrRefs (τ := τ) spec0) (V₁ m c) ∗ (∃ r, prngReg c r)
    ∗ (StableHlo.held (c : Thread nD τ) Sr (V₁ m c) ∗ emp) ∗ Tk m c ∗ ∃ Wd, owes (c : Thread nD τ) (0 + dueFrom c 0) Wd)
  rw [uc_split, zero_add]
  unfold R
  iintro ⟨⟨Ha, Hr⟩, Ht, Hp, HO⟩
  isplitl [Ha]; · iexact Ha
  isplitl [Hp]; · iexact Hp
  isplitl [Hr]
  · isplitl [Hr]; · iexact Hr
    iempintro
  isplitl [Ht] <;> iassumption

theorem reg_post (c : Dev nD) : (reg m).post c ⊢ iprop(Tₙ m c ∗ ∃ W, owes (c : Thread nD τ) (0 : CellTallies nD τ sig ℕ) W) := by
  show iprop(StableHlo.held (c : Thread nD τ) (Pipeline.arrRefs (τ := τ) spec0) (V₂ m c) ∗ (∃ r, prngReg c r)
    ∗ (StableHlo.held (c : Thread nD τ) Sr (V₂ m c) ∗ emp) ∗ Yk c ∗ ∃ Wd, owes (c : Thread nD τ) (0 : CellTallies nD τ sig ℕ) Wd) ⊢ _
  iintro ⟨Ha, -, ⟨Hr, -⟩, Hy, HO⟩
  isplitr [HO]
  · isplitl [Ha]; · iexact Ha
    isplitl [Hr] <;> iassumption
  iexact HO

theorem unscoped_eq : ∀ sm : SemLoc sig, sm.isScoped .tc = false → sm = .reg barS := by decide

theorem V₂_arg0 (c : Dev nD) : V₂ m c (Proc.devRef .tc main_arg0) = m ((c : Thread nD τ).loc main_arg0) :=
  (V₂_of_ne m c (by decide)).trans (Gen.V_main_arg0 m c)
theorem V₂_arg1 (c : Dev nD) : V₂ m c (Proc.devRef .tc main_arg1) = m ((c : Thread nD τ).loc main_arg1) :=
  (V₂_of_ne m c (by decide)).trans (Gen.V_main_arg1 m c)

set_option backward.isDefEq.respectTransparency.types false in
/-- From any memory with every counter at zero, every weakly fair execution on the four devices ends,
    with every device's arguments unchanged, its result the sixteen column blocks written back, and every
    counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = result m c) ∧ r.2.sem = fun _ => 0) :=
  Pipeline.θ_run_regions_kit_sems (pcfgs (F := F)) adm (pdats m) 0 cellOf_inj EP defs₀ 𝒱₀ (SiteBlocks.L 40) SiteBlocks.lv m ρ main (segs m)
    (fun c Q => by rw [main_eq m c])
    (by simp only [segs, Pipeline.Seg.pipes_host, Pipeline.Seg.pipes_region, Pipeline.Seg.pipes_nil]; decide)
    (O₀ := fun d => dueFrom d 0) (hL := SiteBlocks.hL 40) (G := G) (u₀ := u₀ (F := F))
    (hu₀ := by
      unfold u₀
      rw [G_all]
      unfold seed
      iintro Hu
      ihave H := (ownU_pair _ _) $$ Hu
      icases H with ⟨HP, HX⟩
      ihave H2 := (own_pair_emb _ _ _) $$ HX
      icases H2 with ⟨HR, HS⟩
      imodintro
      isplitl [HP]; · iexact HP
      isplitl [HR]; · iexact HR
      iexact HS)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c (Proc.devRef .tc main_arg0)
      ∧ s.mem ((c : Thread nD τ).loc main_arg1) = V₂ m c (Proc.devRef .tc main_arg1)
      ∧ s.mem ((c : Thread nD τ).loc main_v3) = V₂ m c (Proc.devRef .tc main_v3)) ∧ s.sem (cell c .bar) = 0)
    (hfin := fun c s' => by
      dsimp only [Tₙ]; rw [held_arr, held_Sr]
      unfold Yk ptv
      iintro ⟨⟨⟨-, H3⟩, ⟨H0, H1, -⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        exact ⟨h0.trans (V₂_arg0 m c), h1.trans (V₂_arg1 m c), h3.trans (V₂_result m c)⟩,
      sem_eq_zero hs fun c sm hsm => by
        obtain rfl := unscoped_eq sm hsm
        exact (h c).2⟩)

end Cert.KernelIdeal.Run

end
-- ==== Proof.Same.lean ====
/-
  No operation was rewritten on the way from the printed kernel to the idealized one, so the two are the
  same program at every instance of the floats: the run proved of the one is a run of the other.
-/
module

public import proofs.«01_k».proof.Proof.Gen.Kernel
public import proofs.«01_k».proof.Proof.IRun

@[expose] public section

noncomputable section

namespace Cert.Same

open Idealize.ShloMosaic Idealize.ShloMosaic.TcCoe Idealize.SL.Sem

attribute [local instance] Cert.Kernel.Gen.facts Cert.KernelIdeal.Gen.facts

variable {F : FTy → Type} [FloatOps F]

/-- The two tables of kernel functions are one: each has the kernel's body under its only label. -/
theorem bodies : Cert.Kernel.defs₀ (F := F) = Cert.KernelIdeal.defs₀ (F := F) := by
  refine congrArg Defs.onTc (funext fun l => funext fun x => ?_)
  match l, x with
  | 0, (_, _) => rfl

/-- So are the tables with the call's pipeline in them. -/
theorem defs : Cert.Kernel.defs (F := F) = Cert.KernelIdeal.defs (F := F) :=
  congrArg (Pipeline.defs (Cert.Kernel.pcfgs (F := F))) bodies

/-- The printed kernel's run: it ends, on every device, with the arguments unchanged, and every counter at zero. -/
theorem run_main (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs]
  exact (θ_run (Cert.KernelIdeal.defs (F := F)) (onTc (τ := Cert.KernelIdeal.τ) (Cert.KernelIdeal.main (F := F))) _).mono
    (fun _ h => ⟨fun c => ⟨(h.1 c).1, (h.1 c).2.1⟩, h.2⟩) (Cert.KernelIdeal.Run.run_main m ρ)

end Cert.Same

end
-- ==== Proof.IValue.lean ====
/-
  What the kernel computes over the reals: on device `c` the product of its own two blocks plus the
  product of its partner's, at every index of its result.
-/
module

public import proofs.«01_k».proof.Proof.IRun
public import Idealize.ShloMosaic.Lib.Pipeline.ValueKit
public import Idealize.ShloMosaic.Lib.Pointwise

@[expose] public section

set_option maxRecDepth 16384

noncomputable section

namespace Cert.KernelIdeal.Run

open Idealize.ShloMosaic Idealize.ShloMosaic.TcCoe
open Idealize.SL Idealize.SL.Sem
open Idealize.ShloMosaic.Pipeline (Dat Cfg)

variable (m : (ℓ : Loc nD τ sig) → Buf (Elt Ideal) ℓ)

/-- Device `c`'s two arguments. -/
abbrev argA (c : Dev nD) : Vec Ideal S4096x2048 .f32 := m ((c : Thread nD τ).loc main_arg0)
abbrev argB (c : Dev nD) : Vec Ideal S2048x4096 .f32 := m ((c : Thread nD τ).loc main_arg1)

/-- The host's conversions change nothing over the reals. -/
theorem V_left (c : Dev nD) : Gen.V m c main_v1 = argA m c := by
  unfold Gen.V
  after_results
  rfl
theorem V_right (c : Dev nD) : Gen.V m c main_v2 = argB m c := by
  unfold Gen.V
  after_results
  rfl

/-- The product of a device's two arguments at row `r`, column `q`. -/
def dot (c : Dev nD) (r q : Fin 4096) : EReal := ∑ k : Fin 2048, argA m c (ix2 r k) * argB m c (ix2 k q)

theorem index_left : ∀ t : Fin cfg0.N, (cfg0.win 0).index t 0 = 0 ∧ (cfg0.win 0).index t 1 = min t.val 15 := by decide +kernel
theorem index_right : ∀ t : Fin cfg0.N, (cfg0.win 1).index t 0 = 0 ∧ (cfg0.win 1).index t 1 = t.val - 1 := by decide +kernel

/-- Column block `b` of the right argument. -/
theorem iblk_apply (c : Dev nD) (b : ℕ) (hb : b < 16) (k : Fin 2048) (q : Fin 256) :
    Gen.iblk m c 0 (pt b) (ix2 k q) = argB m c (ix2 k ⟨b * 256 + q.val, by omega⟩) := by
  have e := index_left (pt b)
  have e1 : min (pt b).val 15 = b := by show min (min b 16) 15 = b; omega
  have i0 : ((win0_0.blk (pt b)).view.emb (ix2 k q) 0).val = k.val := by
    blk_simp
    show (cfg0.win 0).index (pt b) 0 * 2048 + k.val = k.val
    rw [e.1]; omega
  have i1 : ((win0_0.blk (pt b)).view.emb (ix2 k q) 1).val = b * 256 + q.val := by
    blk_simp
    show (cfg0.win 0).index (pt b) 1 * 256 + q.val = b * 256 + q.val
    rw [e.2, e1]
  have i : (win0_0.blk (pt b)).view.emb (ix2 k q) = (ix2 k ⟨b * 256 + q.val, by omega⟩ : S2048x4096.Idx) :=
    (eq_ix2 _).trans (congrArg₂ ix2 (Fin.ext i0) (Fin.ext i1))
  blk_simp [Gen.iblk]
  exact (congrFun (V_right m c) _).trans (congrArg (argB m c) i)

/-- Block `b` of a partial product. -/
theorem part_apply (c : Dev nD) (b : ℕ) (hb : b < 16) (r : Fin 4096) (q : Fin 256) :
    part m c b (ix3 0 r q) = dot m c r ⟨b * 256 + q.val, by omega⟩ := by
  unfold part
  pointwise [Gen.k0_pay1]
  unfold dot
  have term (k : Fin 2048) : Aof m c (ix2 r k) * Gen.iblk m c 0 (pt b) (ix2 k q) = argA m c (ix2 r k) * argB m c (ix2 k ⟨b * 256 + q.val, by omega⟩) :=
    congrArg₂ (fun u v : EReal => u * v) (congrFun (V_left m c) (ix2 r k)) (iblk_apply m c b hb k q)
  exact Finset.sum_congr rfl fun k _ => term k

/-- Block `b` of the result. -/
theorem outBlk_apply (c : Dev nD) (b : ℕ) (hb : b < 16) (r : Fin 4096) (q : Fin 256) :
    outBlk m c b (ix2 r q) = dot m c r ⟨b * 256 + q.val, by omega⟩ + dot m (pr c) r ⟨b * 256 + q.val, by omega⟩ := by
  unfold outBlk
  pointwise [Gen.k0_pay2]
  rw [part_apply m c b hb, part_apply m (pr c) b hb]

/-- The whole result. -/
theorem result_eq (c : Dev nD) : result m c = fun i : S4096x4096.Idx => dot m c (i 0) (i 1) + dot m (pr c) (i 0) (i 1) := by
  refine (dat m c).arrAt_eq_of_covers 1 _ (by decide +kernel) fun t hf y => ?_
  have e := index_right t
  have ht : t.val - 1 < 16 := by have := t.isLt; have : cfg0.grid.N = 17 := Gen.N_0; omega
  have i0 : ((win0_1.blk t).view.emb y 0).val = (y 0).val := by
    blk_simp
    show (cfg0.win 1).index t 0 * 4096 + (y 0).val = (y 0).val
    rw [e.1]; omega
  have i1 : ((win0_1.blk t).view.emb y 1).val = (t.val - 1) * 256 + (y 1).val := by
    blk_simp
    show (cfg0.win 1).index t 1 * 256 + (y 1).val = (t.val - 1) * 256 + (y 1).val
    rw [e.2]
  blk_simp
  have e0 : (win0_1.blk t).view.emb y 0 = (y 0 : Fin 4096) := Fin.ext i0
  have e1 : (win0_1.blk t).view.emb y 1 = (⟨(t.val - 1) * 256 + (y 1).val, by have : (y 1).val < 256 := (y 1).isLt; omega⟩ : Fin 4096) := Fin.ext i1
  rw [e0, e1]
  exact (congrArg (outBlk m c (t.val - 1)) (eq_ix2 y)).trans (outBlk_apply m c (t.val - 1) ht (y 0) (y 1))

end Cert.KernelIdeal.Run

end
-- ==== Proof.IClaim.lean ====
/-
  The kernel's result against the reference's: the reference's contraction of 4096 is cut in two, one half
  on each device of a row, so a device's sum of the two halves is its block of rows of the product.
-/
module

public import proofs.«01_k».proof.Proof.IValue
public import proofs.«01_k».proof.Proof.Gen.ReferenceIdeal.Run
public import Idealize.ShloMosaic.Lib.Layout

@[expose] public section

set_option maxRecDepth 16384

noncomputable section

namespace Cert.KernelIdeal.Run

open Idealize.ShloMosaic Idealize.ShloMosaic.TcCoe
open Idealize.SL Idealize.SL.Sem

/-- The reference's result. -/
def product (A : Vec Ideal ⟨2, ![8192, 4096]⟩ .f32) (B : Vec Ideal ⟨2, ![4096, 4096]⟩ .f32) : Vec Ideal ⟨2, ![8192, 4096]⟩ .f32 :=
  Host.dotGeneral (F := Ideal) (φ₁ := .f32) (φ₂ := .f32) Cert.ReferenceIdeal.dot_S8192x4096_S4096x4096_S8192x4096_1_0_0_1_n_n none A B

variable (A : Vec Ideal ⟨2, ![8192, 4096]⟩ .f32) (B : Vec Ideal ⟨2, ![4096, 4096]⟩ .f32)

theorem product_apply (r : Fin 8192) (q : Fin 4096) : product A B (ix2 r q) = ∑ k : Fin 4096, A (ix2 r k) * B (ix2 k q) := by
  pointwise [product]

/-- Device `c`'s blocks of the two arguments and of the result. -/
abbrev blockA (c : Dev nD) (V : Vec Ideal ⟨2, ![8192, 4096]⟩ .f32) : Vec Ideal ⟨2, ![4096, 2048]⟩ .f32 :=
  Layout.blockN ⟨2, ![4096, 2048]⟩ ⟨2, ![8192, 4096]⟩ (Layout.meshBlock [2, 2] ![[0], [1]] c) V
abbrev blockB (c : Dev nD) (V : Vec Ideal ⟨2, ![4096, 4096]⟩ .f32) : Vec Ideal ⟨2, ![2048, 4096]⟩ .f32 :=
  Layout.blockN ⟨2, ![2048, 4096]⟩ ⟨2, ![4096, 4096]⟩ (Layout.meshBlock [2, 2] ![[1], []] c) V
abbrev blockR (c : Dev nD) (V : Vec Ideal ⟨2, ![8192, 4096]⟩ .f32) : Vec Ideal ⟨2, ![4096, 4096]⟩ .f32 :=
  Layout.blockN ⟨2, ![4096, 4096]⟩ ⟨2, ![8192, 4096]⟩ (Layout.meshBlock [2, 2] ![[0], []] c) V

/-- Row `r` of device `c`'s block of rows; position `k` of its half of the contraction. -/
def row (c : Dev nD) (r : Fin 4096) : Fin 8192 := ⟨c.val / 2 * 4096 + r.val, by have : c.val < 4 := c.isLt; omega⟩
def pos (c : Dev nD) (k : Fin 2048) : Fin 4096 := ⟨c.val % 2 * 2048 + k.val, by omega⟩

theorem left_block (c : Dev nD) (r : Fin 4096) (k : Fin 2048) :
    blockA c A (ix2 r k) = A (ix2 (row c r) (pos c k)) := by
  unfold blockA
  rw [Layout.blockN_apply]
  refine congrArg A ((eq_ix2 _).trans (congrArg₂ ix2 (Fin.ext ?_) (Fin.ext ?_)))
  · rw [Layout.TilesN.idx_val]
    show ((Layout.meshBlock [2, 2] ![[0], [1]] c) 0).val * 4096 + r.val = c.val / 2 * 4096 + r.val
    rw [show ((Layout.meshBlock [2, 2] ![[0], [1]] c) 0).val = c.val / 2 from by revert c; decide]
  · rw [Layout.TilesN.idx_val]
    show ((Layout.meshBlock [2, 2] ![[0], [1]] c) 1).val * 2048 + k.val = c.val % 2 * 2048 + k.val
    rw [show ((Layout.meshBlock [2, 2] ![[0], [1]] c) 1).val = c.val % 2 from by revert c; decide]

theorem right_block (c : Dev nD) (k : Fin 2048) (q : Fin 4096) :
    blockB c B (ix2 k q) = B (ix2 (pos c k) q) := by
  unfold blockB
  rw [Layout.blockN_apply]
  refine congrArg B ((eq_ix2 _).trans (congrArg₂ ix2 (Fin.ext ?_) (Fin.ext ?_)))
  · rw [Layout.TilesN.idx_val]
    show ((Layout.meshBlock [2, 2] ![[1], []] c) 0).val * 2048 + k.val = c.val % 2 * 2048 + k.val
    rw [show ((Layout.meshBlock [2, 2] ![[1], []] c) 0).val = c.val % 2 from by revert c; decide]
  · rw [Layout.TilesN.idx_val]
    show ((Layout.meshBlock [2, 2] ![[1], []] c) 1).val * 4096 + q.val = q.val
    rw [show ((Layout.meshBlock [2, 2] ![[1], []] c) 1).val = 0 from by revert c; decide]
    omega

theorem result_block (V : Vec Ideal ⟨2, ![8192, 4096]⟩ .f32) (c : Dev nD) (r q : Fin 4096) :
    blockR c V (ix2 r q) = V (ix2 (row c r) q) := by
  unfold blockR
  rw [Layout.blockN_apply]
  refine congrArg V ((eq_ix2 _).trans (congrArg₂ ix2 (Fin.ext ?_) (Fin.ext ?_)))
  · rw [Layout.TilesN.idx_val]
    show ((Layout.meshBlock [2, 2] ![[0], []] c) 0).val * 4096 + r.val = c.val / 2 * 4096 + r.val
    rw [show ((Layout.meshBlock [2, 2] ![[0], []] c) 0).val = c.val / 2 from by revert c; decide]
  · rw [Layout.TilesN.idx_val]
    show ((Layout.meshBlock [2, 2] ![[0], []] c) 1).val * 4096 + q.val = q.val
    rw [show ((Layout.meshBlock [2, 2] ![[0], []] c) 1).val = 0 from by revert c; decide]
    omega

/-- The sum over both halves of the contraction, in either order, is the sum over the whole. -/
theorem halves_sum (c : Dev nD) (f : Fin 4096 → EReal) : (∑ k : Fin 2048, f (pos c k)) + (∑ k : Fin 2048, f (pos (pr c) k)) = ∑ k, f k := by
  have whole : (∑ k : Fin 2048, f ⟨k.val, by omega⟩) + (∑ k : Fin 2048, f ⟨2048 + k.val, by omega⟩) = ∑ k, f k :=
    (Fin.sum_univ_two_halves 2048 2048 rfl f).symm
  have low (d : Dev nD) (h : d.val % 2 = 0) : (∑ k : Fin 2048, f (pos d k)) = ∑ k : Fin 2048, f ⟨k.val, by omega⟩ :=
    Finset.sum_congr rfl fun k _ => congrArg f (Fin.ext (by show d.val % 2 * 2048 + k.val = k.val; omega))
  have high (d : Dev nD) (h : d.val % 2 = 1) : (∑ k : Fin 2048, f (pos d k)) = ∑ k : Fin 2048, f ⟨2048 + k.val, by omega⟩ :=
    Finset.sum_congr rfl fun k _ => congrArg f (Fin.ext (by show d.val % 2 * 2048 + k.val = 2048 + k.val; omega))
  rcases Nat.mod_two_eq_zero_or_one c.val with h | h
  · rw [low c h, high (pr c) (by revert h; revert c; decide), whole]
  · rw [high c h, low (pr c) (by revert h; revert c; decide), add_comm, whole]

variable (m : (ℓ : Loc nD τ sig) → Buf (Elt Ideal) ℓ)

theorem pr_row : ∀ c : Dev nD, (pr c).val / 2 = c.val / 2 := by decide

/-- From arguments that are the blocks of `A` and `B`, each device's result is its block of the product. -/
theorem result_product
    (hA : ∀ c : Dev nD, argA m c = blockA c A)
    (hB : ∀ c : Dev nD, argB m c = blockB c B) (c : Dev nD) :
    result m c = blockR c (product A B) := by
  have one (d : Dev nD) (hd : d.val / 2 = c.val / 2) (r q : Fin 4096) :
      dot m d r q = ∑ k : Fin 2048, (fun k : Fin 4096 => A (ix2 (row c r) k) * B (ix2 k q)) (pos d k) := by
    unfold dot
    refine Finset.sum_congr rfl fun k _ => ?_
    rw [hA, hB, left_block, right_block, show row d r = row c r from Fin.ext (by show d.val / 2 * 4096 + r.val = c.val / 2 * 4096 + r.val; rw [hd])]
  have at_ (r q : Fin 4096) : dot m c r q + dot m (pr c) r q
      = blockR c (product A B) (ix2 r q) := by
    rw [result_block, product_apply, one c rfl, one (pr c) (pr_row c)]
    exact halves_sum c fun k : Fin 4096 => A (ix2 (row c r) k) * B (ix2 k q)
  rw [result_eq]
  exact funext fun i => (at_ (i 0) (i 1)).trans (congrArg _ (eq_ix2 i).symm)

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.IClaim
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed, at the device's floats: every run ends, the arguments unchanged and every counter at zero. -/
theorem frame_kernel : quiescent_Kernel (hKernel := Cert.Kernel.Gen.facts) := fun m g _ =>
  Cert.Same.run_main (F := Bits) m g

/-- The same of the idealized kernel, over the extended reals. -/
theorem frame_ideal : quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Run.run_main (F := Ideal) m g)

/-- The same of the reference, which declares no semaphore at all. -/
theorem frame_reference : quiescent_ReferenceIdeal (hReferenceIdeal := Cert.ReferenceIdeal.Gen.facts) := fun m g _ =>
  (θ_run _ _ _).mono (fun r h => ⟨fun c => (h c).2, sem_eq_zero_of_no_sems (sig := Cert.ReferenceIdeal.sig) (by decide) r.2⟩)
    (Cert.ReferenceIdeal.Value.run (F := Ideal) m g)

/-- Over the extended reals, from the devices' blocks of the reference's arguments, each device's result is its block
    of rows of the reference's result. -/
theorem same_result :
    algebraic_KernelIdeal_ReferenceIdeal (hKernelIdeal := Cert.KernelIdeal.Gen.facts) (hReferenceIdeal := Cert.ReferenceIdeal.Gen.facts) :=
  fun m g m' g' _ hm => ⟨Cert.KernelIdeal.Run.product _ _,
    (θ_run _ _ _).mono (fun _ h c =>
        ⟨(h.1 c).2.2.trans (Cert.KernelIdeal.Run.result_product _ _ m (fun d => (hm d).1) (fun d => (hm d).2) c), (h.1 c).1, (h.1 c).2.1⟩)
      (Cert.KernelIdeal.Run.run_main (F := Ideal) m g),
    (θ_run _ _ _).mono (fun _ h => h 0) (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
